-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gamma_in_f32 [hPre_gamma_in_f32 : Cert.Pre_gamma_in_f32.Facts] (m : (ℓ : Loc Cert.KernelIdeal.nD Cert.KernelIdeal.τ Cert.KernelIdeal.sig) → Buf (Elt Ideal) ℓ) : Prop :=
  ∀ c : Dev Cert.KernelIdeal.nD,
    (Cert.Pre_gamma_in_f32.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gamma_in_f32 [hPre_gamma_in_f32 : Cert.Pre_gamma_in_f32.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gamma_in_f32.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_gamma_in_f32 [hKernelIdeal : Cert.KernelIdeal.Facts] [hPre_gamma_in_f32 : Cert.Pre_gamma_in_f32.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gamma_in_f32 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_gamma_in_f32 [hReferenceIdeal : Cert.ReferenceIdeal.Facts] [hPre_gamma_in_f32 : Cert.Pre_gamma_in_f32.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gamma_in_f32 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_gamma_in_f32 [hKernelIdeal : Cert.KernelIdeal.Facts] [hReferenceIdeal : Cert.ReferenceIdeal.Facts] [hPre_gamma_in_f32 : Cert.Pre_gamma_in_f32.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gamma_in_f32 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)) (v2 : (c : Dev Cert.KernelIdeal.nD) → Buf (Elt Ideal) ((c.tc : Thread Cert.KernelIdeal.nD Cert.KernelIdeal.τ).loc Cert.KernelIdeal.main_v14_2)) (v3 : (c : Dev Cert.KernelIdeal.nD) → Buf (Elt Ideal) ((c.tc : Thread Cert.KernelIdeal.nD Cert.KernelIdeal.τ).loc Cert.KernelIdeal.main_v14_3)) (v4 : (c : Dev Cert.KernelIdeal.nD) → Buf (Elt Ideal) ((c.tc : Thread Cert.KernelIdeal.nD Cert.KernelIdeal.τ).loc Cert.KernelIdeal.main_v14_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_v14_2) = v2 c
          ∧ r.2.mem ((c.tc : Thread Cert.KernelIdeal.nD Cert.KernelIdeal.τ).loc Cert.KernelIdeal.main_v14_3) = v3 c
          ∧ r.2.mem ((c.tc : Thread Cert.KernelIdeal.nD Cert.KernelIdeal.τ).loc Cert.KernelIdeal.main_v14_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_v66) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_gamma_in_f32 : Cert.Pre_gamma_in_f32.Facts),
    quiescent_Kernel (hKernel := hKernel)
    ∧ quiescent_KernelIdeal (hKernelIdeal := hKernelIdeal)
    ∧ quiescent_KernelIdeal_pre_gamma_in_f32 (hKernelIdeal := hKernelIdeal) (hPre_gamma_in_f32 := hPre_gamma_in_f32)
    ∧ quiescent_ReferenceIdeal (hReferenceIdeal := hReferenceIdeal)
    ∧ quiescent_ReferenceIdeal_pre_gamma_in_f32 (hReferenceIdeal := hReferenceIdeal) (hPre_gamma_in_f32 := hPre_gamma_in_f32)
    ∧ preserves_Kernel_KernelIdeal
    ∧ algebraic_KernelIdeal_ReferenceIdeal_pre_gamma_in_f32 (hKernelIdeal := hKernelIdeal) (hReferenceIdeal := hReferenceIdeal) (hPre_gamma_in_f32 := hPre_gamma_in_f32)
-- ==== Pre_gamma_in_f32.lean ====
abbrev S6x256x3584 : Shape := ⟨3, ![6, 256, 3584]⟩
abbrev S3584 : Shape := ⟨1, ![3584]⟩
abbrev S_ : Shape := ⟨0, ![]⟩

class Facts : Prop where
  bcast_S_S3584 : S_.BroadcastsInDim S3584 (![] : Fin 0 → Fin S3584.rank)
  reducesTo_S3584_S_d0 : S3584.ReducesTo [0] S_
  h_S_ : 0 < S_.numel

variable [Facts]

def fn {F : FTy → Type} [FloatOps F] (main_arg0 : FVec F S6x256x3584 .bf16) (main_arg1 : FVec F S6x256x3584 .bf16) (main_arg2 : FVec F S3584 .f32) (main_arg3 : IVec S6x256x3584 32) (main_arg4 : FVec F S3584 .f32) : IVec S_ 1 :=
  let main_v0 : FVec F S3584 .f32 := Host.absf main_arg4
  let main_cst : FVec F S_ .f32 := constant S_ .f32 0x7F7FFFFF#32
  let main_v1 : FVec F S3584 .f32 := broadcastInDim S3584 ![] bcast_S_S3584 main_cst
  let main_v2 : IVec S3584 1 := cmpf .ole main_v0 main_v1
  let main_v3 : FVec F S3584 .f32 := Host.absf main_arg4
  let main_cst_0 : FVec F S_ .f32 := constant S_ .f32 0x7F800000#32
  let main_v4 : FVec F S3584 .f32 := broadcastInDim S3584 ![] bcast_S_S3584 main_cst_0
  let main_v5 : IVec S3584 1 := cmpf .oeq main_v3 main_v4
  let main_v6 : IVec S3584 1 := ori main_v2 main_v5
  let main_c : IVec S_ 1 := constantI S_ 1 1#1
  let main_v7 : IVec S_ 1 := (fun x v => Host.reduce IntOp.andi x v reducesTo_S3584_S_d0 h_S_) main_v6 main_c
  main_v7
-- ==== Kernel.lean ====
abbrev S6x256x3584 : Shape := ⟨3, ![6, 256, 3584]⟩
abbrev S3584 : Shape := ⟨1, ![3584]⟩
abbrev S1536x3584 : Shape := ⟨2, ![1536, 3584]⟩
abbrev S1x3584 : Shape := ⟨2, ![1, 3584]⟩
abbrev S2048x256 : Shape := ⟨2, ![2048, 256]⟩
abbrev S_ : Shape := ⟨0, ![]⟩
abbrev S6x256 : Shape := ⟨2, ![6, 256]⟩
abbrev S1536x448 : Shape := ⟨2, ![1536, 448]⟩
abbrev S128x3584 : Shape := ⟨2, ![128, 3584]⟩
abbrev S128x448 : Shape := ⟨2, ![128, 448]⟩
abbrev S64x3584 : Shape := ⟨2, ![64, 3584]⟩
abbrev S2x12x1x128 : Shape := ⟨4, ![2, 12, 1, 128]⟩
abbrev S64x128 : Shape := ⟨2, ![64, 128]⟩
abbrev S1x128 : Shape := ⟨2, ![1, 128]⟩
abbrev S64 : Shape := ⟨1, ![64]⟩
abbrev S64x1 : Shape := ⟨2, ![64, 1]⟩
abbrev S64x256 : Shape := ⟨2, ![64, 256]⟩
abbrev S64x2048 : Shape := ⟨2, ![64, 2048]⟩
abbrev S64x1536 : Shape := ⟨2, ![64, 1536]⟩
abbrev S1536x256 : Shape := ⟨2, ![1536, 256]⟩
abbrev S64x192 : Shape := ⟨2, ![64, 192]⟩
abbrev S128x1 : Shape := ⟨2, ![128, 1]⟩
abbrev S128x128 : Shape := ⟨2, ![128, 128]⟩
abbrev S1x1x1x128 : Shape := ⟨4, ![1, 1, 1, 128]⟩

abbrev nBuf : Space → Nat
  | .hbm => 66
  | .vmem => 20
  | .smem => 0
  | _ => 0

abbrev bufTy : (tb : Table) → Fin (tcTables nBuf tb) → BufTy
  | .hbm, ⟨0, _⟩ => ⟨S6x256x3584, .bf16⟩
  | .hbm, ⟨1, _⟩ => ⟨S6x256x3584, .bf16⟩
  | .hbm, ⟨2, _⟩ => ⟨S3584, .f32⟩
  | .hbm, ⟨3, _⟩ => ⟨S6x256x3584, .i32⟩
  | .hbm, ⟨4, _⟩ => ⟨S3584, .f32⟩
  | .hbm, ⟨5, _⟩ => ⟨S1536x3584, .bf16⟩
  | .hbm, ⟨6, _⟩ => ⟨S1536x3584, .bf16⟩
  | .hbm, ⟨7, _⟩ => ⟨S1x3584, .f32⟩
  | .hbm, ⟨8, _⟩ => ⟨S1536x3584, .i32⟩
  | .hbm, ⟨9, _⟩ => ⟨S1x3584, .f32⟩
  | .hbm, ⟨10, _⟩ => ⟨S2048x256, .i32⟩
  | .hbm, ⟨11, _⟩ => ⟨S2048x256, .i32⟩
  | .hbm, ⟨12, _⟩ => ⟨S_, .i32⟩
  | .hbm, ⟨13, _⟩ => ⟨S_, .i32⟩
  | .hbm, ⟨14, _⟩ => ⟨S2048x256, .i32⟩
  | .hbm, ⟨15, _⟩ => ⟨S2048x256, .i32⟩
  | .hbm, ⟨16, _⟩ => ⟨S2048x256, .i32⟩
  | .hbm, ⟨17, _⟩ => ⟨S_, .i32⟩
  | .hbm, ⟨18, _⟩ => ⟨S2048x256, .i32⟩
  | .hbm, ⟨19, _⟩ => ⟨S2048x256, .i1⟩
  | .hbm, ⟨20, _⟩ => ⟨S2048x256, .i32⟩
  | .hbm, ⟨21, _⟩ => ⟨S2048x256, .i32⟩
  | .hbm, ⟨22, _⟩ => ⟨S_, .i32⟩
  | .hbm, ⟨23, _⟩ => ⟨S2048x256, .i32⟩
  | .hbm, ⟨24, _⟩ => ⟨S2048x256, .i1⟩
  | .hbm, ⟨25, _⟩ => ⟨S2048x256, .i1⟩
  | .hbm, ⟨26, _⟩ => ⟨S_, .i32⟩
  | .hbm, ⟨27, _⟩ => ⟨S2048x256, .i32⟩
  | .hbm, ⟨28, _⟩ => ⟨S2048x256, .i32⟩
  | .hbm, ⟨29, _⟩ => ⟨S2048x256, .i32⟩
  | .hbm, ⟨30, _⟩ => ⟨S2048x256, .i1⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i32⟩
  | .hbm, ⟨37, _⟩ => ⟨S2048x256, .i32⟩
  | .hbm, ⟨38, _⟩ => ⟨S2048x256, .i32⟩
  | .hbm, ⟨39, _⟩ => ⟨S_, .i32⟩
  | .hbm, ⟨40, _⟩ => ⟨S2048x256, .i32⟩
  | .hbm, ⟨41, _⟩ => ⟨S2048x256, .i1⟩
  | .hbm, ⟨42, _⟩ => ⟨S_, .i32⟩
  | .hbm, ⟨43, _⟩ => ⟨S2048x256, .i32⟩
  | .hbm, ⟨44, _⟩ => ⟨S2048x256, .i1⟩
  | .hbm, ⟨45, _⟩ => ⟨S_, .i32⟩
  | .hbm, ⟨46, _⟩ => ⟨S_, .i1⟩
  | .hbm, ⟨47, _⟩ => ⟨S2048x256, .i1⟩
  | .hbm, ⟨48, _⟩ => ⟨S2048x256, .i1⟩
  | .hbm, ⟨49, _⟩ => ⟨S2048x256, .i1⟩
  | .hbm, ⟨50, _⟩ => ⟨S2048x256, .i32⟩
  | .hbm, ⟨51, _⟩ => ⟨S2048x256, .i32⟩
  | .hbm, ⟨52, _⟩ => ⟨S2048x256, .i32⟩
  | .hbm, ⟨53, _⟩ => ⟨S_, .i32⟩
  | .hbm, ⟨54, _⟩ => ⟨S2048x256, .i32⟩
  | .hbm, ⟨55, _⟩ => ⟨S2048x256, .i32⟩
  | .hbm, ⟨56, _⟩ => ⟨S_, .i32⟩
  | .hbm, ⟨57, _⟩ => ⟨S_, .i32⟩
  | .hbm, ⟨58, _⟩ => ⟨S2048x256, .i32⟩
  | .hbm, ⟨59, _⟩ => ⟨S2048x256, .i32⟩
  | .hbm, ⟨60, _⟩ => ⟨S2048x256, .bf16⟩
  | .hbm, ⟨61, _⟩ => ⟨S1536x3584, .fp8e4m3⟩
  | .hbm, ⟨62, _⟩ => ⟨S6x256, .f32⟩
  | .hbm, ⟨63, _⟩ => ⟨S1536x448, .i8⟩
  | .hbm, ⟨64, _⟩ => ⟨S6x256, .f32⟩
  | .hbm, ⟨65, _⟩ => ⟨S1536x3584, .bf16⟩
  | .local _ .vmem, ⟨0, _⟩ => ⟨S128x3584, .bf16⟩
  | .local _ .vmem, ⟨1, _⟩ => ⟨S128x3584, .bf16⟩
  | .local _ .vmem, ⟨2, _⟩ => ⟨S128x3584, .bf16⟩
  | .local _ .vmem, ⟨3, _⟩ => ⟨S128x3584, .bf16⟩
  | .local _ .vmem, ⟨4, _⟩ => ⟨S1x3584, .f32⟩
  | .local _ .vmem, ⟨5, _⟩ => ⟨S128x3584, .i32⟩
  | .local _ .vmem, ⟨6, _⟩ => ⟨S128x3584, .i32⟩
  | .local _ .vmem, ⟨7, _⟩ => ⟨S1x3584, .f32⟩
  | .local _ .vmem, ⟨8, _⟩ => ⟨S2048x256, .bf16⟩
  | .local _ .vmem, ⟨9, _⟩ => ⟨S128x3584, .fp8e4m3⟩
  | .local _ .vmem, ⟨10, _⟩ => ⟨S128x3584, .fp8e4m3⟩
  | .local _ .vmem, ⟨11, _⟩ => ⟨S6x256, .f32⟩
  | .local _ .vmem, ⟨12, _⟩ => ⟨S128x448, .i8⟩
  | .local _ .vmem, ⟨13, _⟩ => ⟨S128x448, .i8⟩
  | .local _ .vmem, ⟨14, _⟩ => ⟨S6x256, .f32⟩
  | .local _ .vmem, ⟨15, _⟩ => ⟨S128x3584, .bf16⟩
  | .local _ .vmem, ⟨16, _⟩ => ⟨S128x3584, .bf16⟩
  | .local _ .vmem, ⟨17, _⟩ => ⟨S64x3584, .bf16⟩
  | .local _ .vmem, ⟨18, _⟩ => ⟨S64x3584, .f32⟩
  | .local _ .vmem, ⟨19, _⟩ => ⟨S2x12x1x128, .f32⟩
  | _, _ => ⟨S6x256x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_c : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_1 : Ref sig .tc := ⟨.hbm, 39, rfl⟩
abbrev main_call1_v5 : Ref sig .tc := ⟨.hbm, 40, rfl⟩
abbrev main_call1_v6 : Ref sig .tc := ⟨.hbm, 41, rfl⟩
abbrev main_call1_c_2 : Ref sig .tc := ⟨.hbm, 42, rfl⟩
abbrev main_call1_v7 : Ref sig .tc := ⟨.hbm, 43, rfl⟩
abbrev main_call1_v8 : Ref sig .tc := ⟨.hbm, 44, rfl⟩
abbrev main_call1_c_3 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_v9 : Ref sig .tc := ⟨.hbm, 52, rfl⟩
abbrev main_c_1 : Ref sig .tc := ⟨.hbm, 53, rfl⟩
abbrev main_v10 : Ref sig .tc := ⟨.hbm, 54, rfl⟩
abbrev main_v11 : Ref sig .tc := ⟨.hbm, 55, rfl⟩
abbrev main_c_2 : Ref sig .tc := ⟨.hbm, 56, rfl⟩
abbrev main_call2_v0 : Ref sig .tc := ⟨.hbm, 57, rfl⟩
abbrev main_call2_v1 : Ref sig .tc := ⟨.hbm, 58, rfl⟩
abbrev main_v12 : Ref sig .tc := ⟨.hbm, 59, rfl⟩
abbrev main_v13 : Ref sig .tc := ⟨.hbm, 60, rfl⟩
abbrev main_v14_0 : Ref sig .tc := ⟨.hbm, 61, rfl⟩
abbrev main_v14_1 : Ref sig .tc := ⟨.hbm, 62, rfl⟩
abbrev main_v14_2 : Ref sig .tc := ⟨.hbm, 63, rfl⟩
abbrev main_v14_3 : Ref sig .tc := ⟨.hbm, 64, rfl⟩
abbrev main_v14_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![12], ![false]⟩

def k0_off1 (i : grid0.Coords) : Fin 4 → Nat :=
  let c0_1550 : Index := 0#32
  let arg0 : BitVec 32 := BitVec.ofNat 32 (i 0).val
  let v3108 : Index := Scalar.indexCast arg0
  let c0_1551 : Index := 0#32
  let c0_1552 : Index := 0#32
  ![0, v3108.toNat, 0, 0]
def k0_off2 (i : grid0.Coords) : Fin 4 → Nat :=
  let c1 : Index := 1#32
  let arg0 : BitVec 32 := BitVec.ofNat 32 (i 0).val
  let v3116 : Index := Scalar.indexCast arg0
  let c0_1553 : Index := 0#32
  let c0_1554 : Index := 0#32
  ![1, v3116.toNat, 0, 0]
def k0_cond1 (i : grid0.Coords) : BitVec 1 :=
  let arg0 : BitVec 32 := BitVec.ofNat 32 (i 0).val
  let c11_i32 : BitVec 32 := 11#32
  let v3120 : BitVec 1 := Scalar.cmpi .eq arg0 c11_i32
  let v3121 : BitVec 32 := Scalar.extui v3120
  let c0_i32_1555 : BitVec 32 := 0#32
  let v3122 : BitVec 1 := Scalar.cmpi .ne v3121 c0_i32_1555
  v3122

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x3584 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x448 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S6x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x3584 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S6x256x3584 : Shape := ⟨3, ![6, 256, 3584]⟩
abbrev S3584 : Shape := ⟨1, ![3584]⟩
abbrev S1536x3584 : Shape := ⟨2, ![1536, 3584]⟩
abbrev S_ : Shape := ⟨0, ![]⟩
abbrev S1x3584 : Shape := ⟨2, ![1, 3584]⟩
abbrev S1536 : Shape := ⟨1, ![1536]⟩
abbrev S1536x1 : Shape := ⟨2, ![1536, 1]⟩
abbrev S254 : Shape := ⟨1, ![254]⟩
abbrev S1x254 : Shape := ⟨2, ![1, 254]⟩
abbrev S1536x254 : Shape := ⟨2, ![1536, 254]⟩
abbrev S1536x448x8 : Shape := ⟨3, ![1536, 448, 8]⟩
abbrev S8 : Shape := ⟨1, ![8]⟩
abbrev S1x1x8 : Shape := ⟨3, ![1, 1, 8]⟩
abbrev S1536x448 : Shape := ⟨2, ![1536, 448]⟩
abbrev S6x256 : Shape := ⟨2, ![6, 256]⟩

abbrev nBuf : Space → Nat
  | .hbm => 104
  | .vmem => 2
  | .smem => 0
  | _ => 0

abbrev bufTy : (tb : Table) → Fin (tcTables nBuf tb) → BufTy
  | .hbm, ⟨0, _⟩ => ⟨S6x256x3584, .bf16⟩
  | .hbm, ⟨1, _⟩ => ⟨S6x256x3584, .bf16⟩
  | .hbm, ⟨2, _⟩ => ⟨S3584, .f32⟩
  | .hbm, ⟨3, _⟩ => ⟨S6x256x3584, .i32⟩
  | .hbm, ⟨4, _⟩ => ⟨S3584, .f32⟩
  | .hbm, ⟨5, _⟩ => ⟨S1536x3584, .bf16⟩
  | .hbm, ⟨6, _⟩ => ⟨S1536x3584, .bf16⟩
  | .hbm, ⟨7, _⟩ => ⟨S1536x3584, .i32⟩
  | .hbm, ⟨8, _⟩ => ⟨S_, .i32⟩
  | .hbm, ⟨9, _⟩ => ⟨S1536x3584, .i32⟩
  | .hbm, ⟨10, _⟩ => ⟨S1536x3584, .i1⟩
  | .hbm, ⟨11, _⟩ => ⟨S1536x3584, .f32⟩
  | .hbm, ⟨12, _⟩ => ⟨S1x3584, .f32⟩
  | .hbm, ⟨13, _⟩ => ⟨S1536x3584, .f32⟩
  | .hbm, ⟨14, _⟩ => ⟨S1536x3584, .f32⟩
  | .hbm, ⟨15, _⟩ => ⟨S_, .f32⟩
  | .hbm, ⟨16, _⟩ => ⟨S1536x3584, .f32⟩
  | .hbm, ⟨17, _⟩ => ⟨S1536x3584, .f32⟩
  | .hbm, ⟨18, _⟩ => ⟨S_, .f32⟩
  | .hbm, ⟨19, _⟩ => ⟨S_, .f32⟩
  | .hbm, ⟨20, _⟩ => ⟨S1536x3584, .f32⟩
  | .hbm, ⟨21, _⟩ => ⟨S1536x3584, .f32⟩
  | .hbm, ⟨22, _⟩ => ⟨S1536x3584, .f32⟩
  | .hbm, ⟨23, _⟩ => ⟨S1536x3584, .f32⟩
  | .hbm, ⟨24, _⟩ => ⟨S1536x3584, .bf16⟩
  | .hbm, ⟨25, _⟩ => ⟨S1536x3584, .f32⟩
  | .hbm, ⟨26, _⟩ => ⟨S1536x3584, .f32⟩
  | .hbm, ⟨27, _⟩ => ⟨S_, .f32⟩
  | .hbm, ⟨28, _⟩ => ⟨S1536, .f32⟩
  | .hbm, ⟨29, _⟩ => ⟨S_, .f32⟩
  | .hbm, ⟨30, _⟩ => ⟨S1536, .f32⟩
  | .hbm, ⟨31, _⟩ => ⟨S1536, .f32⟩
  | .hbm, ⟨32, _⟩ => ⟨S_, .f32⟩
  | .hbm, ⟨33, _⟩ => ⟨S1536, .f32⟩
  | .hbm, ⟨34, _⟩ => ⟨S1536, .f32⟩
  | .hbm, ⟨35, _⟩ => ⟨S1536, .f32⟩
  | .hbm, ⟨36, _⟩ => ⟨S1536x1, .f32⟩
  | .hbm, ⟨37, _⟩ => ⟨S1536x3584, .f32⟩
  | .hbm, ⟨38, _⟩ => ⟨S1536x3584, .f32⟩
  | .hbm, ⟨39, _⟩ => ⟨S1x3584, .f32⟩
  | .hbm, ⟨40, _⟩ => ⟨S1536x3584, .f32⟩
  | .hbm, ⟨41, _⟩ => ⟨S1536x3584, .f32⟩
  | .hbm, ⟨42, _⟩ => ⟨S1536x3584, .f32⟩
  | .hbm, ⟨43, _⟩ => ⟨S_, .f32⟩
  | .hbm, ⟨44, _⟩ => ⟨S1536, .f32⟩
  | .hbm, ⟨45, _⟩ => ⟨S_, .f32⟩
  | .hbm, ⟨46, _⟩ => ⟨S1536, .f32⟩
  | .hbm, ⟨47, _⟩ => ⟨S1536, .f32⟩
  | .hbm, ⟨48, _⟩ => ⟨S254, .f32⟩
  | .hbm, ⟨49, _⟩ => ⟨S_, .f32⟩
  | .hbm, ⟨50, _⟩ => ⟨S254, .f32⟩
  | .hbm, ⟨51, _⟩ => ⟨S254, .f32⟩
  | .hbm, ⟨52, _⟩ => ⟨S_, .f32⟩
  | .hbm, ⟨53, _⟩ => ⟨S254, .f32⟩
  | .hbm, ⟨54, _⟩ => ⟨S254, .f32⟩
  | .hbm, ⟨55, _⟩ => ⟨S1536x1, .f32⟩
  | .hbm, ⟨56, _⟩ => ⟨S1x254, .f32⟩
  | .hbm, ⟨57, _⟩ => ⟨S1536x254, .f32⟩
  | .hbm, ⟨58, _⟩ => ⟨S1536x254, .f32⟩
  | .hbm, ⟨59, _⟩ => ⟨S1536x254, .i1⟩
  | .hbm, ⟨60, _⟩ => ⟨S_, .f32⟩
  | .hbm, ⟨61, _⟩ => ⟨S_, .f32⟩
  | .hbm, ⟨62, _⟩ => ⟨S1536x254, .f32⟩
  | .hbm, ⟨63, _⟩ => ⟨S1536x254, .f32⟩
  | .hbm, ⟨64, _⟩ => ⟨S1536x254, .f32⟩
  | .hbm, ⟨65, _⟩ => ⟨S_, .f32⟩
  | .hbm, ⟨66, _⟩ => ⟨S1536, .f32⟩
  | .hbm, ⟨67, _⟩ => ⟨S_, .f32⟩
  | .hbm, ⟨68, _⟩ => ⟨S1536, .f32⟩
  | .hbm, ⟨69, _⟩ => ⟨S1536, .i1⟩
  | .hbm, ⟨70, _⟩ => ⟨S_, .f32⟩
  | .hbm, ⟨71, _⟩ => ⟨S1536, .f32⟩
  | .hbm, ⟨72, _⟩ => ⟨S1536, .i1⟩
  | .hbm, ⟨73, _⟩ => ⟨S1536, .i1⟩
  | .hbm, ⟨74, _⟩ => ⟨S_, .f32⟩
  | .hbm, ⟨75, _⟩ => ⟨S_, .f32⟩
  | .hbm, ⟨76, _⟩ => ⟨S1536, .f32⟩
  | .hbm, ⟨77, _⟩ => ⟨S1536, .f32⟩
  | .hbm, ⟨78, _⟩ => ⟨S_, .f32⟩
  | .hbm, ⟨79, _⟩ => ⟨S1536, .f32⟩
  | .hbm, ⟨80, _⟩ => ⟨S1536, .f32⟩
  | .hbm, ⟨81, _⟩ => ⟨S1536x1, .f32⟩
  | .hbm, ⟨82, _⟩ => ⟨S1536x3584, .f32⟩
  | .hbm, ⟨83, _⟩ => ⟨S1536x3584, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1536x3584, .f32⟩
  | .hbm, ⟨88, _⟩ => ⟨S1536x3584, .f32⟩
  | .hbm, ⟨89, _⟩ => ⟨S_, .f32⟩
  | .hbm, ⟨90, _⟩ => ⟨S1536x3584, .f32⟩
  | .hbm, ⟨91, _⟩ => ⟨S1536x3584, .f32⟩
  | .hbm, ⟨92, _⟩ => ⟨S1536x448x8, .i1⟩
  | .hbm, ⟨93, _⟩ => ⟨S1536x448x8, .i32⟩
  | .hbm, ⟨94, _⟩ => ⟨S8, .i32⟩
  | .hbm, ⟨95, _⟩ => ⟨S1x1x8, .i32⟩
  | .hbm, ⟨96, _⟩ => ⟨S1536x448x8, .i32⟩
  | .hbm, ⟨97, _⟩ => ⟨S1536x448x8, .i32⟩
  | .hbm, ⟨98, _⟩ => ⟨S_, .i32⟩
  | .hbm, ⟨99, _⟩ => ⟨S1536x448, .i32⟩
  | .hbm, ⟨100, _⟩ => ⟨S1536x448, .i8⟩
  | .hbm, ⟨101, _⟩ => ⟨S6x256, .f32⟩
  | .hbm, ⟨102, _⟩ => ⟨S6x256, .f32⟩
  | .hbm, ⟨103, _⟩ => ⟨S1536x3584, .fp8e4m3⟩
  | .local _ .vmem, ⟨0, _⟩ => ⟨S1536x3584, .f32⟩
  | .local _ .vmem, ⟨1, _⟩ => ⟨S1536x3584, .fp8e4m3⟩
  | _, _ => ⟨S6x256x3584, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_call2_v0 : Ref sig .tc := ⟨.hbm, 75, rfl⟩
abbrev main_call2_v1 : Ref sig .tc := ⟨.hbm, 76, rfl⟩
abbrev main_v50 : Ref sig .tc := ⟨.hbm, 77, rfl⟩
abbrev main_cst_13 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_14 : Ref sig .tc := ⟨.hbm, 84, rfl⟩
abbrev main_cst_15 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_16 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S1536x3584 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x3584 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelKit.lean ====
/-
  What the two runs of the kernel's body share, for the frame of the printed kernel: the condition that
  selects the last grid point, the staging and scratch buffers, and the frame from a run whose outputs are not named.
-/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Frame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [cond0_0, k0_cond1, e0]
    word_cmp
   : ∀ t : Fin grid0.N, cond0_0 (grid0.coords t) ↔ t.val % 12 = 11)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S128x3584 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x3584 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3584 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x3584 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x3584 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S6x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x448 .i8 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S6x256 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S128x3584 .bf16 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S64x3584 .bf16 := Memref.whole cc0_scratch0
abbrev scM0_1 : Memref sig .tc .vmem S64x3584 .f32 := Memref.whole cc0_scratch1
abbrev scM0_2 : Memref sig .tc .vmem S2x12x1x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Frame

end
-- ==== Proof.KernelRunA.lean ====
/-
  The printed kernel's body at a grid point before the last: it runs, its inputs unchanged.
-/
module

public import proofs.«01_k».proof.Proof.KernelKit

@[expose] public section

set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4652000 in
/-- The body's triple IN CASE A (`scf.if` 0 not taken: points 0, 1, … 10: 11 of 12): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S128x3584 .bf16) (harg1 : arg1.IsWhole) (arg2 : Memref sig .tc .vmem S128x3584 .bf16) (harg2 : arg2.IsWhole) (arg3 : Memref sig .tc .vmem S1x3584 .f32) (harg3 : arg3.IsWhole) (arg4 : Memref sig .tc .vmem S128x3584 .i32) (harg4 : arg4.IsWhole) (arg5 : Memref sig .tc .vmem S1x3584 .f32) (harg5 : arg5.IsWhole) (arg6 : Memref sig .tc .vmem S2048x256 .bf16) (harg6 : arg6.IsWhole) (arg7 : Memref sig .tc .vmem S128x3584 .fp8e4m3) (harg7 : arg7.IsWhole) (arg8 : Memref sig .tc .vmem S6x256 .f32) (harg8 : arg8.IsWhole) (arg9 : Memref sig .tc .vmem S128x448 .i8) (harg9 : arg9.IsWhole) (arg10 : Memref sig .tc .vmem S6x256 .f32) (harg10 : arg10.IsWhole) (arg11 : Memref sig .tc .vmem S128x3584 .bf16) (harg11 : arg11.IsWhole) (arg12 : Memref sig .tc .vmem S64x3584 .bf16) (harg12 : arg12.IsWhole) (arg13 : Memref sig .tc .vmem S64x3584 .f32) (harg13 : arg13.IsWhole) (arg14 : Memref sig .tc .vmem S2x12x1x128 .f32) (harg14 : arg14.IsWhole) (hc0 : ¬cond0_0 i)
    (x0 : Vec F S128x3584 .bf16) (x1 : Vec F S128x3584 .bf16) (x2 : Vec F S1x3584 .f32) (x3 : Vec F S128x3584 .i32) (x4 : Vec F S1x3584 .f32) (x5 : Vec F S2048x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_bda_rmsnorm_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_bda_rmsnorm_fp8_eq_skeleton]; unfold cc0_bda_rmsnorm_fp8_skel
    simp only [k0_part87_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Frame

end
-- ==== Proof.KernelRunB.lean ====
/-
  The printed kernel's body at the last grid point: it runs, its inputs unchanged.
-/
module

public import proofs.«01_k».proof.Proof.KernelRunA

@[expose] public section

set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4972000 in
/-- The body's triple IN CASE B (`scf.if` 0 taken: points 11): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S128x3584 .bf16) (harg1 : arg1.IsWhole) (arg2 : Memref sig .tc .vmem S128x3584 .bf16) (harg2 : arg2.IsWhole) (arg3 : Memref sig .tc .vmem S1x3584 .f32) (harg3 : arg3.IsWhole) (arg4 : Memref sig .tc .vmem S128x3584 .i32) (harg4 : arg4.IsWhole) (arg5 : Memref sig .tc .vmem S1x3584 .f32) (harg5 : arg5.IsWhole) (arg6 : Memref sig .tc .vmem S2048x256 .bf16) (harg6 : arg6.IsWhole) (arg7 : Memref sig .tc .vmem S128x3584 .fp8e4m3) (harg7 : arg7.IsWhole) (arg8 : Memref sig .tc .vmem S6x256 .f32) (harg8 : arg8.IsWhole) (arg9 : Memref sig .tc .vmem S128x448 .i8) (harg9 : arg9.IsWhole) (arg10 : Memref sig .tc .vmem S6x256 .f32) (harg10 : arg10.IsWhole) (arg11 : Memref sig .tc .vmem S128x3584 .bf16) (harg11 : arg11.IsWhole) (arg12 : Memref sig .tc .vmem S64x3584 .bf16) (harg12 : arg12.IsWhole) (arg13 : Memref sig .tc .vmem S64x3584 .f32) (harg13 : arg13.IsWhole) (arg14 : Memref sig .tc .vmem S2x12x1x128 .f32) (harg14 : arg14.IsWhole) (hc0 : cond0_0 i)
    (x0 : Vec F S128x3584 .bf16) (x1 : Vec F S128x3584 .bf16) (x2 : Vec F S1x3584 .f32) (x3 : Vec F S128x3584 .i32) (x4 : Vec F S1x3584 .f32) (x5 : Vec F S2048x256 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_bda_rmsnorm_fp8 i arg1 harg1 arg2 harg2 arg3 harg3 arg4 harg4 arg5 harg5 arg6 harg6 arg7 harg7 arg8 harg8 arg9 harg9 arg10 harg10 arg11 harg11 arg12 harg12 arg13 harg13 arg14 harg14) K := by
    intro E K
    simp only [cc0_bda_rmsnorm_fp8_eq_skeleton]; unfold cc0_bda_rmsnorm_fp8_skel
    simp only [k0_part87_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

end Cert.Kernel.Frame

end
-- ==== Proof.KernelFrame.lean ====
/-
  The frame of the printed kernel, over any floats: it runs, its arguments end unchanged, its counters at zero.
-/
module

public import proofs.«01_k».proof.Proof.KernelRunB
public import Idealize.ShloMosaic.Lib.Claim

@[expose] public section

set_option maxRecDepth 16384

noncomputable section

namespace Cert.Kernel.Frame

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 12 := lt_of_lt_of_eq t.isLt (show cfg0.N = 12 from N_0)
  by_cases h0 : t.val % 12 = 11
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, H9, H10, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Frame

end
-- ==== Proof.Spec.lean ====
/-
  The mathematics both programs compute, one value at a time over the extended reals: the residual sum, the reciprocal root mean
  square of a row, the normalised row, the scale of a row, the codes, and the mask's bytes.
-/
module

public import Idealize.ShloMosaic.Lib.Pointwise

@[expose] public section

noncomputable section

namespace Cert.Values

open Idealize.ShloMosaic

/-- A row of values. -/
abbrev Row := Fin 3584 → EReal

/-- Whether a random word keeps its value. -/
def keepS (u : BitVec 32) : BitVec 1 := IntOp.cmpi .uge u 429496730#32

/-- The residual sum of one value. -/
def hS (x a b : EReal) (u : BitVec 32) : EReal :=
  x + Scalar.select (keepS u) ((a + b) * Ideal.ofBits .f32 0x3F8E38E4#32) 0

/-- The reciprocal root mean square of a row. -/
def rsS (h : Row) : EReal :=
  Ideal.rsqrt (Ideal.div (∑ k, h k * h k) (Ideal.ofBits .f32 0x45600000#32) + Ideal.ofBits .f32 0x3727C5AC#32)

/-- The normalised row. -/
def yS (h g : Row) (k : Fin 3584) : EReal := h k * rsS h * g k

/-- The row's largest magnitude over the largest code. -/
def vS (y : Row) : EReal :=
  Finset.univ.fold max (Ideal.ofBits .f32 0xFF800000#32) (fun k => max (y k) (-(y k))) * Ideal.ofBits .f32 0x3B124925#32

/-- What holds of a value that f32 has: its magnitude is at most the largest finite one, or infinite. -/
def F32Val (x : EReal) : Prop := max x (-x) ≤ Ideal.ofBits .f32 0x7F7FFFFF#32 ∨ max x (-x) = ⊤

/-- The powers of two from `2 ^ (-126)` on. -/
def powS (k : Fin 254) : EReal :=
  Ideal.pow (Ideal.ofBits .f32 0x40000000#32) (Ideal.ofBits .f32 0xC2FC0000#32 + FloatOps.sitofp (F := Ideal) .f32 (BitVec.ofNat 32 k.val))

/-- The scale: the least of the powers above the value; one below the least normal number and at infinity. -/
def scaleS (v : EReal) : EReal :=
  if v < Ideal.ofBits .f32 0x00800000#32 ∨ v = Ideal.ofBits .f32 0x7F800000#32 then 1
  else Finset.univ.fold min (Ideal.ofBits .f32 0x7F800000#32) (fun k => if v < powS k then powS k else Ideal.ofBits .f32 0x7F800000#32)

/-- A code: the value over the scale, clipped. -/
def codeS (y inv : EReal) : EReal :=
  min (Ideal.ofBits .f32 0x43E00000#32) (max (Ideal.ofBits .f32 0xC3E00000#32) (y * inv))

/-- A byte of the mask: bit `b` is whether the `b`-th of eight words keeps its value. -/
def maskS (u : Fin 8 → BitVec 32) : BitVec 8 :=
  BitVec.setWidth 8 (Finset.univ.fold IntOp.addi (0#32) fun b =>
    IntOp.shli ArithUnit.host (BitVec.setWidth 32 (keepS (u b))) (BitVec.ofNat 32 b.val))

end Cert.Values
-- ==== Proof.Scale.lean ====
/-
  The scale of a row, two ways: the kernel counts the powers of two at most the value, and the reference takes the least power
  above it. Both give the same power of two, and the kernel's inverse is one over it.
-/
module

public import proofs.«01_k».proof.Proof.Spec

@[expose] public section

noncomputable section

namespace Cert.Values

open Idealize.ShloMosaic

/-- The word of a float whose exponent field is `k`. -/
def word (k : BitVec 32) : BitVec 32 := IntOp.shli ArithUnit.vector k 23#32

/-- The exponent the kernel finds: how many of the powers of two are at most the value. -/
def expS (v : EReal) : BitVec 32 :=
  Scalar.select
    (IntOp.andi (BitVec.ofBool (decide (Ideal.ofBits .f32 0x00800000#32 ≤ v))) (BitVec.ofBool (decide (v < Ideal.ofBits .f32 0x7F800000#32))))
    (IntOp.subi (IntOp.subi
      (FloatOps.fptosi (F := Ideal) (φ := .f32) 32 (∑ x : Fin 256,
        if Ideal.ofBits .f32 (word (IntOp.addi (IntOp.subi (BitVec.ofNat 32 x.val) 127#32) 127#32)) ≤ v then (1 : EReal) else 0))
      1#32) 126#32)
    0#32

/-- The kernel's scale. -/
def kscale (v : EReal) : EReal := Ideal.ofBits .f32 (word (IntOp.addi (expS v) 127#32))

/-- The kernel's inverse scale. -/
def kinv (v : EReal) : EReal := Ideal.ofBits .f32 (word (IntOp.addi (IntOp.subi 0#32 (expS v)) 127#32))

/-- A power of two by its exponent field. -/
def two (k : ℕ) : ℝ := (2 : ℝ) ^ ((k : ℤ) - 127)

theorem two_pos (k : ℕ) : 0 < two k := by unfold two; positivity

theorem two_le {a b : ℕ} : two a ≤ two b ↔ a ≤ b := by
  unfold two
  rw [zpow_le_zpow_iff_right₀ (by norm_num)]
  omega

theorem two_lt {a b : ℕ} : two a < two b ↔ a < b := by
  unfold two
  rw [zpow_lt_zpow_iff_right₀ (by norm_num)]
  omega

theorem word_fields : ∀ k : Fin 256, ((word (BitVec.ofNat 32 k.val)).extractLsb' 31 1 == 1#1) = false
    ∧ ((word (BitVec.ofNat 32 k.val)).extractLsb' 23 8).toNat = k.val ∧ ((word (BitVec.ofNat 32 k.val)).extractLsb' 0 23).toNat = 0 := by
  decide +kernel

theorem ieee_fields (b : BitVec 32) (n : ℕ) (h1 : (b.extractLsb' 31 1 == 1#1) = false) (h2 : (b.extractLsb' 23 8).toNat = n)
    (h3 : (b.extractLsb' 0 23).toNat = 0) : Ideal.ieee 8 23 b = if n = 255 then ⊤ else if n = 0 then 0 else ((two n : ℝ) : EReal) := by
  unfold Ideal.ieee
  simp only [show 8 + 23 = 31 from rfl, h1, h2, h3]
  by_cases h : n = 255
  · simp [h]
  · by_cases h0 : n = 0
    · simp [h0]
    · rw [if_neg h0, if_neg h, if_neg h0, if_neg (by omega)]
      refine congrArg _ ?_
      unfold two
      have e : ((2 : ℝ) ^ ((n : ℤ) - 127)) = (2 : ℝ) ^ (23 : ℤ) * (2 : ℝ) ^ ((n : ℤ) - (2 ^ (8 - 1) - 1) - (23 : ℕ)) := by
        rw [← zpow_add₀ (by norm_num)]
        congr 1
        push_cast
        ring
      rw [e]
      norm_num

theorem ofBits_word (k : Fin 256) : Ideal.ofBits .f32 (word (BitVec.ofNat 32 k.val))
    = if k.val = 255 then ⊤ else if k.val = 0 then 0 else ((two k.val : ℝ) : EReal) := by
  obtain ⟨h1, h2, h3⟩ := word_fields k
  exact ieee_fields _ _ h1 h2 h3

theorem word_at {x : BitVec 32} (k : Fin 256) (h : x = BitVec.ofNat 32 k.val) (h0 : k.val ≠ 0) (h1 : k.val ≠ 255) :
    Ideal.ofBits .f32 (word x) = ((two k.val : ℝ) : EReal) := by
  rw [h, ofBits_word, if_neg h1, if_neg h0]

theorem minNormal : Ideal.ofBits .f32 0x00800000#32 = ((two 1 : ℝ) : EReal) := by
  have := ofBits_word 1
  exact this

theorem inf32 : Ideal.ofBits .f32 0x7F800000#32 = ⊤ := by
  have := ofBits_word 255
  exact this

theorem powS_eq (k : Fin 254) : powS k = ((two (k.val + 1) : ℝ) : EReal) := by
  have h2 : Ideal.ofBits .f32 0x40000000#32 = ((2 : ℝ) : EReal) := by
    have h : Ideal.ofBits .f32 0x40000000#32 = ((two 128 : ℝ) : EReal) := ofBits_word 128
    rw [h]; unfold two; norm_num
  have h126 : Ideal.ofBits .f32 0xC2FC0000#32 = ((-126 : ℝ) : EReal) := by
    simp [Ideal.ofBits, Ideal.ieee]; rw [← EReal.coe_mul]; norm_num
  have hk : FloatOps.sitofp (F := Ideal) .f32 (BitVec.ofNat 32 k.val) = ((k.val : ℝ) : EReal) := by
    show (((BitVec.ofNat 32 k.val).toInt : ℝ) : EReal) = _
    have h : ∀ k : Fin 254, (BitVec.ofNat 32 k.val).toInt = (k.val : ℤ) := by decide +kernel
    have := h k
    rw [this]; norm_cast
  unfold powS
  rw [h2, h126, hk, ← EReal.coe_add]
  show ((Real.rpow 2 (-126 + (k.val : ℝ)) : ℝ) : EReal) = _
  refine congrArg _ ?_
  unfold two
  rw [← Real.rpow_intCast]
  show (2 : ℝ) ^ (-126 + (k.val : ℝ)) = _
  congr 1
  push_cast
  ring

/-- The count of the powers at most a value between two neighbours. -/
theorem count_eq {x : ℝ} {N : ℕ} (h0 : 1 ≤ N) (h1 : N ≤ 252) (hl : two N ≤ x) (hr : x < two (N + 1)) :
    (∑ k : Fin 256, if Ideal.ofBits .f32 (word (IntOp.addi (IntOp.subi (BitVec.ofNat 32 k.val) 127#32) 127#32)) ≤ (x : EReal) then (1 : EReal) else 0)
      = (((N + 1 : ℕ) : ℝ) : EReal) := by
  have hw : ∀ k : Fin 256, IntOp.addi (IntOp.subi (BitVec.ofNat 32 k.val) 127#32) 127#32 = BitVec.ofNat 32 k.val := by decide +kernel
  have hk : ∀ k : Fin 256, (Ideal.ofBits .f32 (word (BitVec.ofNat 32 k.val)) ≤ (x : EReal)) ↔ k.val ∈ Finset.range (N + 1) := by
    intro k
    rw [ofBits_word, Finset.mem_range]
    have hx : 0 < x := lt_of_lt_of_le (two_pos N) hl
    by_cases h : k.val = 255
    · rw [if_pos h]
      constructor
      · intro h'; exact absurd h' (by simp)
      · intro h'; omega
    · by_cases h' : k.val = 0
      · rw [if_neg h, if_pos h']
        constructor
        · intro _; omega
        · intro _; exact_mod_cast hx.le
      · rw [if_neg h, if_neg h', EReal.coe_le_coe_iff]
        constructor
        · intro h2
          have := two_lt.1 (lt_of_le_of_lt h2 hr)
          omega
        · intro h2
          exact le_trans (two_le.2 (by omega)) hl
  simp only [hw, hk]
  rw [Fin.sum_univ_eq_sum_range (fun k => if k ∈ Finset.range (N + 1) then (1 : EReal) else 0) 256, ← Finset.sum_filter]
  have hf : (Finset.range 256).filter (fun k => k ∈ Finset.range (N + 1)) = Finset.range (N + 1) := by
    ext k
    simp only [Finset.mem_filter, Finset.mem_range]
    omega
  rw [hf, Finset.sum_const, Finset.card_range, nsmul_one]
  norm_cast

theorem expS_mid {x : ℝ} {N : ℕ} (h0 : 1 ≤ N) (h1 : N ≤ 252) (hl : two N ≤ x) (hr : x < two (N + 1)) :
    expS (x : EReal) = BitVec.ofNat 32 (N + 1) - 1#32 - 126#32 := by
  unfold expS
  rw [count_eq h0 h1 hl hr, minNormal, inf32]
  have a : decide (((two 1 : ℝ) : EReal) ≤ (x : EReal)) = true :=
    decide_eq_true (EReal.coe_le_coe_iff.2 (le_trans (two_le.2 h0) hl))
  have b : decide ((x : EReal) < ⊤) = true := decide_eq_true (EReal.coe_lt_top x)
  rw [a, b]
  have c : FloatOps.fptosi (F := Ideal) (φ := .f32) 32 ((((N + 1 : ℕ) : ℝ)) : EReal) = BitVec.ofNat 32 (N + 1) := by
    show BitVec.ofInt 32 (Ideal.toIntClamped _ _ _) = _
    rw [Ideal.toIntClamped_coe, if_pos (by positivity)]
    have : ⌊(((N + 1 : ℕ) : ℝ))⌋ = ((N + 1 : ℕ) : ℤ) := Int.floor_natCast _
    rw [this, min_eq_right (by norm_num; omega), max_eq_right (by norm_num; omega)]
    exact BitVec.ofInt_natCast _ _
  rw [c]
  rfl

theorem expS_low {v : EReal} (h : v < Ideal.ofBits .f32 0x00800000#32) : expS v = 0#32 := by
  unfold expS
  have a : decide (Ideal.ofBits .f32 0x00800000#32 ≤ v) = false := decide_eq_false (not_le.2 h)
  rw [a]
  generalize BitVec.ofBool (decide (v < Ideal.ofBits .f32 0x7F800000#32)) = b
  have : IntOp.andi (BitVec.ofBool false) b = 0#1 := by revert b; decide
  rw [this]
  rfl

theorem expS_top : expS ⊤ = 0#32 := by
  unfold expS
  rw [inf32]
  have a : decide ((⊤ : EReal) < ⊤) = false := decide_eq_false (lt_irrefl _)
  rw [a]
  generalize BitVec.ofBool (decide (Ideal.ofBits .f32 0x00800000#32 ≤ (⊤ : EReal))) = b
  have : IntOp.andi b (BitVec.ofBool false) = 0#1 := by revert b; decide
  rw [this]
  rfl

theorem scaleS_mid {x : ℝ} {N : ℕ} (h0 : 1 ≤ N) (h1 : N ≤ 252) (hl : two N ≤ x) (hr : x < two (N + 1)) :
    scaleS (x : EReal) = ((two (N + 1) : ℝ) : EReal) := by
  unfold scaleS
  rw [minNormal, inf32, if_neg (not_or.2 ⟨not_lt.2 (EReal.coe_le_coe_iff.2 (le_trans (two_le.2 h0) hl)), EReal.coe_ne_top x⟩)]
  apply le_antisymm
  · rw [Finset.fold_min_le]
    right
    refine ⟨⟨N, by omega⟩, Finset.mem_univ _, ?_⟩
    rw [powS_eq]
    rw [if_pos (EReal.coe_lt_coe_iff.2 hr)]
  · rw [Finset.le_fold_min]
    refine ⟨le_top, fun k _ => ?_⟩
    rw [powS_eq]
    by_cases h : (x : EReal) < ((two (k.val + 1) : ℝ) : EReal)
    · rw [if_pos h, EReal.coe_le_coe_iff, two_le]
      have := two_lt.1 (lt_of_le_of_lt hl (EReal.coe_lt_coe_iff.1 h))
      omega
    · rw [if_neg h]; exact le_top

/-- Where a value lies between powers of two. -/
theorem exists_two {x : ℝ} (hl : two 1 ≤ x) (hr : x < two 253) : ∃ N : ℕ, 1 ≤ N ∧ N ≤ 252 ∧ two N ≤ x ∧ x < two (N + 1) := by
  have hx : 0 < x := lt_of_lt_of_le (two_pos 1) hl
  obtain ⟨n, a, b⟩ := exists_mem_Ico_zpow hx (one_lt_two (α := ℝ))
  have c : (-126 : ℤ) < n + 1 := by
    have := lt_of_le_of_lt hl b
    unfold two at this
    rw [zpow_lt_zpow_iff_right₀ (by norm_num)] at this
    simpa using this
  have d : n < 126 := by
    have := lt_of_le_of_lt a hr
    unfold two at this
    rw [zpow_lt_zpow_iff_right₀ (by norm_num)] at this
    simpa using this
  refine ⟨(n + 127).toNat, by omega, by omega, ?_, ?_⟩
  · unfold two
    have : (((n + 127).toNat : ℕ) : ℤ) - 127 = n := by omega
    rw [this]; exact a
  · unfold two
    have : (((n + 127).toNat + 1 : ℕ) : ℤ) - 127 = n + 1 := by omega
    rw [this]; exact b

theorem one32 : Ideal.ofBits .f32 (word 127#32) = 1 := by
  have h := ofBits_word 127
  have : two 127 = 1 := by unfold two; norm_num
  rw [show BitVec.ofNat 32 ((127 : Fin 256)).val = 127#32 from rfl] at h
  rw [h, if_neg (by decide), if_neg (by decide)]
  show ((two 127 : ℝ) : EReal) = 1
  rw [this]; rfl

/-- Where the kernel's exponent is zero and the reference takes one, the two scales are one. -/
theorem scale_one {v : EReal} (hk : expS v = 0#32) (e : scaleS v = 1) : kscale v = scaleS v ∧ kinv v = Ideal.div 1 (scaleS v) := by
  have e1 : IntOp.addi 0#32 127#32 = 127#32 := by decide
  have e2 : IntOp.addi (IntOp.subi 0#32 0#32) 127#32 = 127#32 := by decide
  unfold kscale kinv
  rw [hk, e, e1, e2, one32]
  refine ⟨rfl, ?_⟩
  have := Ideal.div_coe (x := 1) (y := (1 : ℝ)) one_ne_zero
  simpa using this.symm

/-- The two scales are one, and the kernel's inverse is one over it. -/
theorem scale_eq {v : EReal} (h0 : 0 ≤ v) (h1 : v < ((two 253 : ℝ) : EReal) ∨ v = ⊤) : kscale v = scaleS v ∧ kinv v = Ideal.div 1 (scaleS v) := by
  rcases h1 with h1 | rfl
  swap
  · exact scale_one expS_top (by unfold scaleS; rw [inf32, if_pos (.inr rfl)])
  by_cases h : v < Ideal.ofBits .f32 0x00800000#32
  · exact scale_one (expS_low h) (by unfold scaleS; rw [if_pos (.inl h)])
  · lift v to ℝ using ⟨ne_top_of_lt h1, (lt_of_lt_of_le EReal.bot_lt_zero h0).ne'⟩
    rw [minNormal, not_lt, EReal.coe_le_coe_iff] at h
    rw [EReal.coe_lt_coe_iff] at h1
    obtain ⟨N, n0, n1, hl, hr⟩ := exists_two h h1
    have ha : ∀ N : Fin 253, IntOp.addi (BitVec.ofNat 32 (N.val + 1) - 1#32 - 126#32) 127#32 = BitVec.ofNat 32 (N.val + 1) := by decide +kernel
    have hb : ∀ N : Fin 253, IntOp.addi (IntOp.subi 0#32 (BitVec.ofNat 32 (N.val + 1) - 1#32 - 126#32)) 127#32 = BitVec.ofNat 32 (253 - N.val) := by
      decide +kernel
    unfold kscale kinv
    rw [expS_mid n0 n1 hl hr, scaleS_mid n0 n1 hl hr,
      word_at ⟨N + 1, by omega⟩ (ha ⟨N, by omega⟩) (by show N + 1 ≠ 0; omega) (by show N + 1 ≠ 255; omega),
      word_at ⟨253 - N, by omega⟩ (hb ⟨N, by omega⟩) (by show 253 - N ≠ 0; omega) (by show 253 - N ≠ 255; omega)]
    refine ⟨rfl, ?_⟩
    rw [Ideal.div_coe (two_pos _).ne', one_mul]
    refine congrArg _ ?_
    show two (253 - N) = 1 / two (N + 1)
    unfold two
    rw [one_div, ← zpow_neg]
    congr 1
    omega

end Cert.Values
end
-- ==== Proof.Gamma.lean ====
/-
  What the precondition says: each weight is a value that f32 has.
-/
module

public import proofs.«01_k».proof.Pre_gamma_in_f32
public import proofs.«01_k».proof.Proof.Gen.Pre_gamma_in_f32
public import proofs.«01_k».proof.Proof.Scale
public import Idealize.ShloMosaic.Lib.ReduceAll
public import Idealize.ShloMosaic.Lib.Pointwise

@[expose] public section

noncomputable section

namespace Cert.Pre_gamma_in_f32

open Idealize.ShloMosaic Cert.Values

/-- Every weight's magnitude is at most the largest finite one, or infinite. -/
theorem weight_f32 [Facts] (x a : FVec Ideal S6x256x3584 .bf16) (b : FVec Ideal S3584 .f32) (u : IVec S6x256x3584 32) (g : FVec Ideal S3584 .f32)
    (h : fn (F := Ideal) x a b u g = fun _ => 1#1) (k : Fin 3584) : F32Val (g (ix1 k)) := by
  dsimp only [fn] at h
  have : Subsingleton S_.Idx := ⟨fun i j => funext fun a => a.elim0⟩
  have e := Host.reduce_andi_all _ _ _ _ (fun a => a.elim0) (congrFun h _) (ix1 k)
  have or1 : ∀ a b : BitVec 1, IntOp.ori a b = 1#1 → a = 1#1 ∨ b = 1#1 := by decide
  rcases or1 _ _ e with h1 | h1
  · exact .inl ((Ideal.cmp_ole_eq_one _ _).mp h1)
  · exact .inr (((Ideal.cmp_oeq_eq_one _ _).mp h1).trans inf32)

end Cert.Pre_gamma_in_f32
end
-- ==== Proof.Rolled.lean ====
/-
  The kernel's body with its column tiles rolled up: the printed body is one straight line, in which the same few operations are
  written out for each of the 28 column tiles of each of the two chunks of 64 rows. Here they are recursions over the columns, and
  `body_eq_rolled` says that the printed body is this program.
-/
module

public import proofs.«01_k».proof.Proof.Gen.KernelIdeal.Skeleton

@[expose] public section

set_option synthInstance.maxSize 4096

noncomputable section

namespace Cert.KernelIdeal.Rolled

open Idealize.ShloMosaic Idealize.SL.Sem Cert.KernelIdeal.Gen

variable {F : FTy → Type} [FloatOps F]

/-- Tile `c` of chunk `r` lies in a block of 128 rows. -/
theorem inbA (r : Fin 2) {c : ℕ} (hc : c < 28) : ∀ a, (![64 * r.val, 128 * c] : Fin 2 → ℕ) a + S64x128.size a ≤ S128x3584.size a := by
  intro a; have := r.isLt
  fin_cases a
  · show 64 * r.val + 64 ≤ 128; omega
  · show 128 * c + 128 ≤ 3584; omega

/-- Tile `c` lies in a chunk of 64 rows. -/
theorem inbB {c : ℕ} (hc : c < 28) : ∀ a, (![0, 128 * c] : Fin 2 → ℕ) a + S64x128.size a ≤ S64x3584.size a := by
  intro a
  fin_cases a
  · show 0 + 64 ≤ 64; omega
  · show 128 * c + 128 ≤ 3584; omega

/-- Tile `c` lies in a row. -/
theorem inbR {c : ℕ} (hc : c < 28) : ∀ a, (![0, 128 * c] : Fin 2 → ℕ) a + S1x128.size a ≤ S1x3584.size a := by
  intro a
  fin_cases a
  · show 0 + 1 ≤ 1; omega
  · show 128 * c + 128 ≤ 3584; omega

/-- The mask's first 256 columns of chunk `r`. -/
theorem inbM0 (r : Fin 2) : ∀ a, (![64 * r.val, 0] : Fin 2 → ℕ) a + S64x256.size a ≤ S128x448.size a := by
  intro a; have := r.isLt
  fin_cases a
  · show 64 * r.val + 64 ≤ 128; omega
  · show 0 + 256 ≤ 448; omega

/-- The mask's last 192 columns of chunk `r`. -/
theorem inbM1 (r : Fin 2) : ∀ a, (![64 * r.val, 256] : Fin 2 → ℕ) a + S64x192.size a ≤ S128x448.size a := by
  intro a; have := r.isLt
  fin_cases a
  · show 64 * r.val + 64 ≤ 128; omega
  · show 256 + 192 ≤ 448; omega

/-- Row `i` of slice `k` of the carried statistics. -/
theorem inbS (k : Fin 2) {i : ℕ} (hi : i < 12) : ∀ a, (![k.val, i, 0, 0] : Fin 4 → ℕ) a + S1x1x1x128.size a ≤ S2x12x1x128.size a := by
  intro a; have := k.isLt
  fin_cases a
  · show k.val + 1 ≤ 2; omega
  · show i + 1 ≤ 12; omega
  · show 0 + 1 ≤ 1; omega
  · show 0 + 128 ≤ 128; omega

/-- The part of a 6 by 256 array that row `i` of the statistics fills. -/
theorem inbT {i : ℕ} (hi : i < 12) : ∀ a, (![i / 2, 128 * (i % 2)] : Fin 2 → ℕ) a + S1x128.size a ≤ S6x256.size a := by
  intro a
  fin_cases a
  · show i / 2 + 1 ≤ 6; omega
  · show 128 * (i % 2) + 128 ≤ 256; omega

theorem packedA (p : ℕ) (hp : p ∣ 64) (r : Fin 2) {c : ℕ} (hc : c < 28) :
    (Rect.unit (s := S128x3584) ![64 * r.val, 128 * c] S64x128.size (inbA r hc)).PackedRows p := by
  have h2 : 2 ≤ 2 := Nat.le_refl 2
  exact .inr ⟨h2, rfl, .inl ⟨(show p ∣ 64 * r.val from Dvd.dvd.mul_right hp r.val), hp⟩⟩

theorem packedB (p : ℕ) (hp : p ∣ 64) {c : ℕ} (hc : c < 28) :
    (Rect.unit (s := S64x3584) ![0, 128 * c] S64x128.size (inbB hc)).PackedRows p := by
  have h2 : 2 ≤ 2 := Nat.le_refl 2
  exact .inr ⟨h2, rfl, .inl ⟨(show p ∣ 0 from dvd_zero p), hp⟩⟩

theorem packedM0 (p : ℕ) (hp : p ∣ 64) (r : Fin 2) :
    (Rect.unit (s := S128x448) ![64 * r.val, 0] S64x256.size (inbM0 r)).PackedRows p := by
  have h2 : 2 ≤ 2 := Nat.le_refl 2
  exact .inr ⟨h2, rfl, .inl ⟨(show p ∣ 64 * r.val from Dvd.dvd.mul_right hp r.val), hp⟩⟩

theorem packedM1 (p : ℕ) (hp : p ∣ 64) (r : Fin 2) :
    (Rect.unit (s := S128x448) ![64 * r.val, 256] S64x192.size (inbM1 r)).PackedRows p := by
  have h2 : 2 ≤ 2 := Nat.le_refl 2
  exact .inr ⟨h2, rfl, .inl ⟨(show p ∣ 64 * r.val from Dvd.dvd.mul_right hp r.val), hp⟩⟩

/-- The zero tile that both running accumulators start from. -/
def zeroTile : FVec F S64x128 .f32 := broadcast S64x128 (Scalar.ofBits .f32 0x00000000#32)

/-- One more tile's squares. -/
def ssqStep (s : FVec F S64x128 .f32) (h : FVec F S64x128 .bf16) : FVec F S64x128 .f32 :=
  addf s (mulf (extf .f32 h bitsLt_bf16_f32) (extf .f32 h bitsLt_bf16_f32))

/-- One more tile's magnitudes. -/
def maxStep (s : FVec F S64x128 .f32) (y : FVec F S64x128 .f32) : FVec F S64x128 .f32 := maximumf s (absf y)

abbrev BODYOF (F : FTy → Type) [FloatOps F] := Prog (TpuEff nD τ sig (Elt F) Λ₀ .tc)

local notation "BODY" => BODYOF F

section

variable (arg1 : Memref sig .tc .vmem S128x3584 .bf16) (arg2 : Memref sig .tc .vmem S128x3584 .bf16)
  (arg3 : Memref sig .tc .vmem S1x3584 .f32) (arg4 : Memref sig .tc .vmem S128x3584 .i32)
  (arg5 : Memref sig .tc .vmem S1x3584 .f32) (arg6 : Memref sig .tc .vmem S2048x256 .bf16)
  (arg7 : Memref sig .tc .vmem S128x3584 .fp8e4m3) (harg7 : arg7.IsWhole)
  (arg8 : Memref sig .tc .vmem S6x256 .f32)
  (arg9 : Memref sig .tc .vmem S128x448 .i8) (harg9 : arg9.IsWhole)
  (arg10 : Memref sig .tc .vmem S6x256 .f32)
  (arg11 : Memref sig .tc .vmem S128x3584 .bf16) (harg11 : arg11.IsWhole)
  (arg12 : Memref sig .tc .vmem S64x3584 .bf16) (harg12 : arg12.IsWhole)
  (arg13 : Memref sig .tc .vmem S64x3584 .f32) (arg14 : Memref sig .tc .vmem S2x12x1x128 .f32)

/-- First pass, one column tile: form the residual `h` and the keep bits, store both, and add the squares of `h`. -/
def col1 (r : Fin 2) {c : ℕ} (hc : c < 28) (s : FVec F S64x128 .f32) (K : FVec F S64x128 .f32 → BODY PUnit) : BODY PUnit :=
  .op (.load arg4 (Rect.unit (s := S128x3584) ![64 * r.val, 128 * c] S64x128.size (inbA r hc)).toLoadRect (View.loadsAt_vmem h_S64x128)) fun u =>
  .op (.load arg2 (Rect.unit (s := S128x3584) ![64 * r.val, 128 * c] S64x128.size (inbA r hc)).toLoadRect (View.loadsAt_vmem h_S64x128)) fun a =>
  .op (.load arg3 (Rect.unit (s := S1x3584) ![0, 128 * c] S1x128.size (inbR hc)).toLoadRect (View.loadsAt_vmem h_S1x128)) fun b =>
  .op (.load arg1 (Rect.unit (s := S128x3584) ![64 * r.val, 128 * c] S64x128.size (inbA r hc)).toLoadRect (View.loadsAt_vmem h_S64x128)) fun x =>
  .op (.load arg11 (Rect.unit (s := S128x3584) ![64 * r.val, 128 * c] S64x128.size (inbA r hc)).toLoadRect (View.loadsAt_vmem h_S64x128)) fun _ =>
  .op (.store arg11 (Rect.unit (s := S128x3584) ![64 * r.val, 128 * c] S64x128.size (inbA r hc)) (k0_pay28 u a b x) Finset.univ (View.stores_vmem h_S64x128 (harg11.storeExact_slice rfl _ (packedA _ (by decide) r hc)) (fun _ => rfl)) (.inl rfl)) fun _ =>
  .op (.load arg12 (Rect.unit (s := S64x3584) ![0, 128 * c] S64x128.size (inbB hc)).toLoadRect (View.loadsAt_vmem h_S64x128)) fun _ =>
  .op (.store arg12 (Rect.unit (s := S64x3584) ![0, 128 * c] S64x128.size (inbB hc)) (k0_pay29 u) Finset.univ (View.stores_vmem h_S64x128 (harg12.storeExact_slice rfl _ (packedB _ (by decide) hc)) (fun _ => rfl)) (.inl rfl)) fun _ =>
  K (ssqStep s (k0_pay28 u a b x))

/-- First pass over the `n` column tiles from `c` on, with the running sum of squares. -/
def pass1 (r : Fin 2) (K : FVec F S64x128 .f32 → BODY PUnit) : (n c : ℕ) → c + n ≤ 28 → FVec F S64x128 .f32 → BODY PUnit
  | 0, _, _, s => K s
  | n + 1, c, hn, s => col1 arg1 arg2 arg3 arg4 arg11 harg11 arg12 harg12 r (c := c) (by omega) s
      (pass1 r K n (c + 1) (by omega))

/-- Second pass, one column tile: scale `h` by the row's factor and by `gamma`, store it, and take its magnitudes into the running maximum. -/
def col2 (r : Fin 2) (rstd : FVec F S64x1 .f32) {c : ℕ} (hc : c < 28) (s : FVec F S64x128 .f32)
    (K : FVec F S64x128 .f32 → BODY PUnit) : BODY PUnit :=
  .op (.load arg11 (Rect.unit (s := S128x3584) ![64 * r.val, 128 * c] S64x128.size (inbA r hc)).toLoadRect (View.loadsAt_vmem h_S64x128)) fun h =>
  .op (.load arg5 (Rect.unit (s := S1x3584) ![0, 128 * c] S1x128.size (inbR hc)).toLoadRect (View.loadsAt_vmem h_S1x128)) fun g =>
  .op (.load arg13 (Rect.unit (s := S64x3584) ![0, 128 * c] S64x128.size (inbB hc)).toLoadRect (View.loadsAt_vmem h_S64x128)) fun _ =>
  .op (.store arg13 (Rect.unit (s := S64x3584) ![0, 128 * c] S64x128.size (inbB hc)) (shapeCast S64x128 (k0_pay160 rstd h g) shapeCasts_S64x128_S64x128) Finset.univ (View.stores_vmem_bits_univ h_S64x128 rfl) (.inl rfl)) fun _ =>
  K (maxStep s (k0_pay160 rstd h g))

/-- Second pass over the `n` column tiles from `c` on, with the running maximum of magnitudes. -/
def pass2 (r : Fin 2) (rstd : FVec F S64x1 .f32) (K : FVec F S64x128 .f32 → BODY PUnit) :
    (n c : ℕ) → c + n ≤ 28 → FVec F S64x128 .f32 → BODY PUnit
  | 0, _, _, s => K s
  | n + 1, c, hn, s => col2 arg5 arg11 arg13 r rstd (c := c) (by omega) s (pass2 r rstd K n (c + 1) (by omega))

/-- Third pass, one column tile: divide by the scale, clip, narrow, and store the codes. -/
def col3 (r : Fin 2) (inv : FVec F S64x1 .f32) {c : ℕ} (hc : c < 28) (K : BODY PUnit) : BODY PUnit :=
  .op (.load arg13 (Rect.unit (s := S64x3584) ![0, 128 * c] S64x128.size (inbB hc)).toLoadRect (View.loadsAt_vmem h_S64x128)) fun y =>
  .op (.load arg7 (Rect.unit (s := S128x3584) ![64 * r.val, 128 * c] S64x128.size (inbA r hc)).toLoadRect (View.loadsAt_vmem h_S64x128)) fun _ =>
  .op (.store arg7 (Rect.unit (s := S128x3584) ![64 * r.val, 128 * c] S64x128.size (inbA r hc)) (k0_pay226 inv y) Finset.univ (View.stores_vmem h_S64x128 (harg7.storeExact_slice rfl _ (packedA _ (by decide) r hc)) (fun _ => rfl)) (.inl rfl)) fun _ =>
  K

/-- Third pass over the `n` column tiles from `c` on. -/
def pass3 (r : Fin 2) (inv : FVec F S64x1 .f32) (K : BODY PUnit) : (n c : ℕ) → c + n ≤ 28 → BODY PUnit
  | 0, _, _ => K
  | n + 1, c, hn => col3 arg7 harg7 arg13 r inv (c := c) (by omega) (pass3 r inv K n (c + 1) (by omega))

/-- The packed mask of one chunk: two products of the keep bits with the packing weights. -/
def maskPart (r : Fin 2) (K : BODY PUnit) : BODY PUnit :=
  .op (.load arg12 (Rect.unit (s := S64x3584) ![0, 0] S64x2048.size inb_S64x3584_S64x2048_0_0).toLoadRect (View.loadsAt_vmem h_S64x2048)) fun b =>
  .op (.load arg6 (Rect.unit (s := S2048x256) ![0, 0] S2048x256.size inb_S2048x256_S2048x256_0_0).toLoadRect (View.loadsAt_vmem h_S2048x256)) fun w =>
  .op (.load arg9 (Rect.unit (s := S128x448) ![64 * r.val, 0] S64x256.size (inbM0 r)).toLoadRect (View.loadsAt_vmem h_S64x256)) fun _ =>
  .op (.store arg9 (Rect.unit (s := S128x448) ![64 * r.val, 0] S64x256.size (inbM0 r)) (k0_pay260 b w) Finset.univ (View.stores_vmem h_S64x256 (harg9.storeExact_slice rfl _ (packedM0 _ (by decide) r)) (fun _ => rfl)) (.inl rfl)) fun _ =>
  .op (.load arg12 (Rect.unit (s := S64x3584) ![0, 2048] S64x1536.size inb_S64x3584_S64x1536_0_2048).toLoadRect (View.loadsAt_vmem h_S64x1536)) fun b' =>
  .op (.load arg6 (Rect.unit (s := S2048x256) ![0, 0] S1536x256.size inb_S2048x256_S1536x256_0_0).toLoadRect (View.loadsAt_vmem h_S1536x256)) fun w' =>
  .op (.load arg9 (Rect.unit (s := S128x448) ![64 * r.val, 256] S64x192.size (inbM1 r)).toLoadRect (View.loadsAt_vmem h_S64x192)) fun _ =>
  .op (.store arg9 (Rect.unit (s := S128x448) ![64 * r.val, 256] S64x192.size (inbM1 r)) (k0_pay261 b' w') Finset.univ (View.stores_vmem h_S64x192 (harg9.storeExact_slice rfl _ (packedM1 _ (by decide) r)) (fun _ => rfl)) (.inl rfl)) fun _ =>
  K

/-- One chunk of 64 rows: the three passes and the mask; the row factors and the running maximum go on. -/
def chunk (r : Fin 2) (K : FVec F S64x1 .f32 → FVec F S64x128 .f32 → BODY PUnit) : BODY PUnit :=
  pass1 arg1 arg2 arg3 arg4 arg11 harg11 arg12 harg12 r (fun s =>
    pass2 arg5 arg11 arg13 r (k0_pay151 s) (fun a =>
      pass3 arg7 harg7 arg13 r (k0_pay225 a) (maskPart arg6 arg9 harg9 arg12 r (K (k0_pay151 s) a)) 28 0 (Nat.le_refl 28))
      28 0 (Nat.le_refl 28) zeroTile) 28 0 (Nat.le_refl 28) zeroTile

/-- Row `i` of both statistics copied out. -/
def copyRow {i : ℕ} (hi : i < 12) (K : BODY PUnit) : BODY PUnit :=
  .op (.load arg14 (Rect.unit (s := S2x12x1x128) ![(0 : Fin 2).val, i, 0, 0] S1x1x1x128.size (inbS 0 hi)).toLoadRect (View.loadsAt_vmem h_S1x1x1x128)) fun v =>
  .op (.load arg10 (Rect.unit (s := S6x256) ![i / 2, 128 * (i % 2)] S1x128.size (inbT hi)).toLoadRect (View.loadsAt_vmem h_S1x128)) fun _ =>
  .op (.store arg10 (Rect.unit (s := S6x256) ![i / 2, 128 * (i % 2)] S1x128.size (inbT hi)) (k0_pay3 v) Finset.univ (View.stores_vmem_bits_univ h_S1x128 rfl) (.inl rfl)) fun _ =>
  .op (.load arg14 (Rect.unit (s := S2x12x1x128) ![(1 : Fin 2).val, i, 0, 0] S1x1x1x128.size (inbS 1 hi)).toLoadRect (View.loadsAt_vmem h_S1x1x1x128)) fun w =>
  .op (.load arg8 (Rect.unit (s := S6x256) ![i / 2, 128 * (i % 2)] S1x128.size (inbT hi)).toLoadRect (View.loadsAt_vmem h_S1x128)) fun _ =>
  .op (.store arg8 (Rect.unit (s := S6x256) ![i / 2, 128 * (i % 2)] S1x128.size (inbT hi)) (k0_pay4 w) Finset.univ (View.stores_vmem_bits_univ h_S1x128 rfl) (.inl rfl)) fun _ =>
  K

/-- The `n` rows of both statistics from row `i` on copied out. -/
def copyRows : (n i : ℕ) → i + n ≤ 12 → BODY PUnit
  | 0, _, _ => .ret ⟨⟩
  | n + 1, i, hn => copyRow arg8 arg10 arg14 (i := i) (by omega) (copyRows n (i + 1) (by omega))

/-- The statistics of the point's 128 rows stored in their row of the carried scratch; the last point copies all of them out. -/
def finish (i : grid0.Coords) (rs0 rs1 sc0 sc1 : FVec F S64x1 .f32) : BODY PUnit :=
  .op (.load arg14 (Rect.unit (s := S2x12x1x128) (k0_off1 i) S1x1x1x128.size (k0_off1_inb i)).toLoadRect (View.loadsAt_vmem h_S1x1x1x128)) fun _ =>
  .op (.store arg14 (Rect.unit (s := S2x12x1x128) (k0_off1 i) S1x1x1x128.size (k0_off1_inb i)) (k0_pay1 (k0_pay501 rs0 rs1)) Finset.univ (View.stores_vmem_bits_univ h_S1x1x1x128 rfl) (.inl rfl)) fun _ =>
  .op (.load arg14 (Rect.unit (s := S2x12x1x128) (k0_off2 i) S1x1x1x128.size (k0_off2_inb i)).toLoadRect (View.loadsAt_vmem h_S1x1x1x128)) fun _ =>
  .op (.store arg14 (Rect.unit (s := S2x12x1x128) (k0_off2 i) S1x1x1x128.size (k0_off2_inb i)) (k0_pay2 (k0_pay500 sc0 sc1)) Finset.univ (View.stores_vmem_bits_univ h_S1x1x1x128 rfl) (.inl rfl)) fun _ =>
  if k0_cond1 i = 1#1 then copyRows arg8 arg10 arg14 12 0 (Nat.le_refl 12) else .ret ⟨⟩

/-- The whole body. -/
def rolled (i : grid0.Coords) : BODY PUnit :=
  chunk arg1 arg2 arg3 arg4 arg5 arg6 arg7 harg7 arg9 harg9 arg11 harg11 arg12 harg12 arg13 0 fun rs0 a0 =>
  chunk arg1 arg2 arg3 arg4 arg5 arg6 arg7 harg7 arg9 harg9 arg11 harg11 arg12 harg12 arg13 1 fun rs1 a1 =>
  finish arg8 arg10 arg14 i rs0 rs1 (k0_pay224 a0) (k0_pay224 a1)

end

end Cert.KernelIdeal.Rolled

end
-- ==== Proof.Wp.lean ====
/-
  Loads and unmasked stores of a memref that is owned by its values: a load reads a window of the values, a store puts its payload
  over a window of them.
-/
module

public import Idealize.ShloMosaic.Lib.VecWindow
public import Idealize.ShloMosaic.Lib.Writes
public import Idealize.ShloMosaic.Lib.Updates.Own

@[expose] public section

noncomputable section

namespace Cert.Values

open Idealize.ShloMosaic Idealize.ShloMosaic.VecWindow
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load reads a window of the values. -/
theorem wp_load_owns {cs : CoreSpace} {m : Memref sig c.2.kind cs s e} {off size : Fin s.rank → ℕ} {inb : ∀ a, off a + size a ≤ s.size a}
    {hl : m.view.LoadsAt (Rect.unit off size inb).toLoadRect}
    {k : ((Rect.unit off size inb).toLoadRect.shape.Idx → Val e) → Prog (TpuEff nD τ sig Val Λ c.2) α}
    {X : s.Idx → Val e} :
    (owns c m fullShare X)
      ⊢ iprop(((owns c m fullShare X) -∗ wp frame (wpE defs 𝒱 c bd) E (k (window X off size inb)) Q)
        -∗ wp frame (wpE defs 𝒱 c bd) E (.op (.load m (Rect.unit off size inb).toLoadRect hl) k) Q) := by
  unfold owns
  iintro ⟨%f, %hf, H⟩ Hk
  iapply (wp_load 𝒱 c bd E (Q := Q) (hl := hl) (k := k) (S := m.view.set) (q := fullShare) (f := f) (m.view.setOn_subset_set _)) $$ H
  iintro H
  have hr : m.view.readAt Val (Rect.unit off size inb).toLoadRect f = window X off size inb := by
    rw [← hf]; rfl
  rw [hr]
  iapply Hk
  iexists f
  isplitr
  · ipureintro; exact hf
  iexact H

/-- A store puts its payload over a window of the values. -/
theorem wp_store_owns {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : Finset.univ = Finset.univ ∨ ∀ a, (Rect.unit off size inb).stride a = 1}
    {k : PUnit → Prog (TpuEff nD τ sig Val Λ c.2) α} {X : s.Idx → Val e} :
    (owns c m fullShare X)
      ⊢ iprop(((owns c m fullShare (put X off size w)) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (wp_store_writes₀ 𝒱 c bd E (Q := Q) (hx := hx) (hm := hm) (k := k) (S := m.view.set) (f := f) (View.set_slice_subset _ _)) $$ H
  iintro H
  iapply Hk
  iexists (m.view.writes Val f [⟨Rect.unit off size inb, w⟩])
  isplitr
  · ipureintro
    rw [View.read_writes_cons_put m.view f inb w [] rfl, View.writes_nil, hf]
  iexact H

end Cert.Values

end
-- ==== Proof.Body.lean ====
/-
  What the rolled body does to the values of its buffers: each pass fills the columns of a buffer tile by tile.
-/
module

public import proofs.«01_k».proof.Proof.Rolled
public import proofs.«01_k».proof.Proof.Wp
public import proofs.«01_k».proof.Proof.Gen.KernelIdeal.Launch

@[expose] public section

set_option synthInstance.maxSize 4096

noncomputable section

namespace Cert.KernelIdeal.Rolled

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Cert.KernelIdeal.Gen Cert.Values

variable {F : FTy → Type} [FloatOps F]

local notation "𝕄" => MT nD τ sig Unit (Elt F) ℕ (UR sig nD τ) ℕ

/-- A tile for each of the 28 columns. -/
abbrev Tiles (α : Type) := (c : ℕ) → c < 28 → (S64x128.Idx → α)

/-- A 128-row block with the `n` column tiles from `c` on put into chunk `r`. -/
def fillA {α : Type} (r : Fin 2) (T : Tiles α) : (n c : ℕ) → c + n ≤ 28 → (S128x3584.Idx → α) → (S128x3584.Idx → α)
  | 0, _, _, X => X
  | n + 1, c, hn, X => fillA r T n (c + 1) (by omega) (put X ![64 * r.val, 128 * c] S64x128.size (T c (by omega)))

/-- A 64-row buffer with the `n` column tiles from `c` on put into it. -/
def fillB {α : Type} (T : Tiles α) : (n c : ℕ) → c + n ≤ 28 → (S64x3584.Idx → α) → (S64x3584.Idx → α)
  | 0, _, _, X => X
  | n + 1, c, hn, X => fillB T n (c + 1) (by omega) (put X ![0, 128 * c] S64x128.size (T c (by omega)))

/-- An accumulator over the `n` column tiles from `c` on. -/
def foldT {α β : Type} (f : β → (S64x128.Idx → α) → β) (T : Tiles α) : (n c : ℕ) → c + n ≤ 28 → β → β
  | 0, _, _, s => s
  | n + 1, c, hn, s => foldT f T n (c + 1) (by omega) (f s (T c (by omega)))

/-- The tile of a 128-row block. -/
def tileA {α : Type} (r : Fin 2) (X : S128x3584.Idx → α) : Tiles α := fun c hc => window X ![64 * r.val, 128 * c] S64x128.size (inbA r hc)

/-- The tile of a 64-row buffer. -/
def tileB {α : Type} (X : S64x3584.Idx → α) : Tiles α := fun c hc => window X ![0, 128 * c] S64x128.size (inbB hc)

section Values

variable (x1 x2 : Vec F S128x3584 .bf16) (x3 : Vec F S1x3584 .f32) (x4 : Vec F S128x3584 .i32) (x5 : Vec F S1x3584 .f32)
  (x6 : Vec F S2048x256 .bf16)

/-- The residual's tiles. -/
def hT (r : Fin 2) : Tiles (Elt F .bf16) := fun c hc =>
  k0_pay28 (tileA r x4 c hc) (tileA r x2 c hc) (window x3 ![0, 128 * c] S1x128.size (inbR hc)) (tileA r x1 c hc)

/-- The keep bits' tiles. -/
def bT (r : Fin 2) : Tiles (Elt F .bf16) := fun c hc => k0_pay29 (tileA r x4 c hc)

/-- The scaled rows' tiles, from the residual's. -/
def yT (rs : FVec F S64x1 .f32) (h : Tiles (Elt F .bf16)) : Tiles (Elt F .f32) := fun c hc =>
  k0_pay160 rs (h c hc) (window x5 ![0, 128 * c] S1x128.size (inbR hc))

/-- A tile as it is stored. -/
def castT (y : Tiles (Elt F .f32)) : Tiles (Elt F .f32) := fun c hc => shapeCast S64x128 (y c hc) shapeCasts_S64x128_S64x128

/-- The codes' tiles. -/
def cT (inv : FVec F S64x1 .f32) (y : Tiles (Elt F .f32)) : Tiles (Elt F .fp8e4m3) := fun c hc => k0_pay226 inv (y c hc)

/-- The mask of a chunk put into its rows. -/
def maskOf (r : Fin 2) (B : Vec F S64x3584 .bf16) (M : Vec F S128x448 .i8) : Vec F S128x448 .i8 :=
  put (put M ![64 * r.val, 0] S64x256.size
      (k0_pay260 (window B ![0, 0] S64x2048.size inb_S64x3584_S64x2048_0_0) (window x6 ![0, 0] S2048x256.size inb_S2048x256_S2048x256_0_0)))
    ![64 * r.val, 256] S64x192.size
      (k0_pay261 (window B ![0, 2048] S64x1536.size inb_S64x3584_S64x1536_0_2048) (window x6 ![0, 0] S1536x256.size inb_S2048x256_S1536x256_0_0))

end Values

variable (c : Dev nD) (E : Set ℕ)

/-- A buffer of the core owned whole, with its values. -/
abbrev Own {s : Shape} {e : EltTy} (a : Memref sig .tc .vmem s e) (x : s.Idx → Elt F e) : sProp 𝕄 := owns (c : Thread nD τ) a fullShare x

/-- The body's weakest precondition. -/
abbrev Wp (p : BODYOF F PUnit) (Q : PUnit.{1} → sProp 𝕄) : sProp 𝕄 := wp frame (wpE (defs₀ (F := F)) Variants.none (c : Thread nD τ) none) E p Q

theorem pass1_spec (Q : PUnit.{1} → sProp 𝕄) (r : Fin 2) (arg1 arg2 : Memref sig .tc .vmem S128x3584 .bf16) (arg3 : Memref sig .tc .vmem S1x3584 .f32)
    (arg4 : Memref sig .tc .vmem S128x3584 .i32) (arg11 : Memref sig .tc .vmem S128x3584 .bf16) (harg11 : arg11.IsWhole)
    (arg12 : Memref sig .tc .vmem S64x3584 .bf16) (harg12 : arg12.IsWhole)
    (x1 x2 : Vec F S128x3584 .bf16) (x3 : Vec F S1x3584 .f32) (x4 : Vec F S128x3584 .i32)
    (K : FVec F S64x128 .f32 → BODYOF F PUnit) :
    ∀ (n j : ℕ) (hn : j + n ≤ 28) (s : FVec F S64x128 .f32) (H : Vec F S128x3584 .bf16) (B : Vec F S64x3584 .bf16),
      iprop(Own c arg1 x1 ∗ Own c arg2 x2 ∗ Own c arg3 x3 ∗ Own c arg4 x4 ∗ Own c arg11 H ∗ Own c arg12 B
        ∗ ((Own c arg1 x1 ∗ Own c arg2 x2 ∗ Own c arg3 x3 ∗ Own c arg4 x4 ∗ Own c arg11 (fillA r (hT x1 x2 x3 x4 r) n j hn H)
              ∗ Own c arg12 (fillB (bT x4 r) n j hn B))
            -∗ Wp c E (K (foldT ssqStep (hT x1 x2 x3 x4 r) n j hn s)) Q))
      ⊢ Wp c E (pass1 arg1 arg2 arg3 arg4 arg11 harg11 arg12 harg12 r K n j hn s) Q := by
  intro n
  induction n with
  | zero =>
    intro j hn s H B
    simp only [pass1, fillA, fillB, foldT]
    iintro ⟨H1, H2, H3, H4, H11, H12, Hk⟩
    iapply Hk
    iframe
  | succ n ih =>
    intro j hn s H B
    iintro ⟨H1, H2, H3, H4, H11, H12, Hk⟩
    unfold pass1 col1
    iapply (wp_load_owns Variants.none (c : Thread nD τ) none E) $$ H4
    iintro H4
    iapply (wp_load_owns Variants.none (c : Thread nD τ) none E) $$ H2
    iintro H2
    iapply (wp_load_owns Variants.none (c : Thread nD τ) none E) $$ H3
    iintro H3
    iapply (wp_load_owns Variants.none (c : Thread nD τ) none E) $$ H1
    iintro H1
    iapply (wp_load_owns Variants.none (c : Thread nD τ) none E) $$ H11
    iintro H11
    iapply (wp_store_owns Variants.none (c : Thread nD τ) none E) $$ H11
    iintro H11
    iapply (wp_load_owns Variants.none (c : Thread nD τ) none E) $$ H12
    iintro H12
    iapply (wp_store_owns Variants.none (c : Thread nD τ) none E) $$ H12
    iintro H12
    iapply (ih (j + 1) _ _ _ _)
    iframe
    iexact Hk

theorem pass2_spec (Q : PUnit.{1} → sProp 𝕄) (r : Fin 2) (arg5 : Memref sig .tc .vmem S1x3584 .f32) (arg11 : Memref sig .tc .vmem S128x3584 .bf16)
    (arg13 : Memref sig .tc .vmem S64x3584 .f32) (x5 : Vec F S1x3584 .f32) (rs : FVec F S64x1 .f32) (H : Vec F S128x3584 .bf16)
    (K : FVec F S64x128 .f32 → BODYOF F PUnit) :
    ∀ (n j : ℕ) (hn : j + n ≤ 28) (s : FVec F S64x128 .f32) (Y : Vec F S64x3584 .f32),
      iprop(Own c arg5 x5 ∗ Own c arg11 H ∗ Own c arg13 Y
        ∗ ((Own c arg5 x5 ∗ Own c arg11 H ∗ Own c arg13 (fillB (castT (yT x5 rs (tileA r H))) n j hn Y))
            -∗ Wp c E (K (foldT maxStep (yT x5 rs (tileA r H)) n j hn s)) Q))
      ⊢ Wp c E (pass2 arg5 arg11 arg13 r rs K n j hn s) Q := by
  intro n
  induction n with
  | zero =>
    intro j hn s Y
    simp only [pass2, fillB, foldT]
    iintro ⟨H5, H11, H13, Hk⟩
    iapply Hk
    iframe
  | succ n ih =>
    intro j hn s Y
    iintro ⟨H5, H11, H13, Hk⟩
    unfold pass2 col2
    iapply (wp_load_owns Variants.none (c : Thread nD τ) none E) $$ H11
    iintro H11
    iapply (wp_load_owns Variants.none (c : Thread nD τ) none E) $$ H5
    iintro H5
    iapply (wp_load_owns Variants.none (c : Thread nD τ) none E) $$ H13
    iintro H13
    iapply (wp_store_owns Variants.none (c : Thread nD τ) none E) $$ H13
    iintro H13
    iapply (ih (j + 1) _ _ _)
    iframe
    iexact Hk

theorem pass3_spec (Q : PUnit.{1} → sProp 𝕄) (r : Fin 2) (arg7 : Memref sig .tc .vmem S128x3584 .fp8e4m3) (harg7 : arg7.IsWhole)
    (arg13 : Memref sig .tc .vmem S64x3584 .f32) (inv : FVec F S64x1 .f32) (Y : Vec F S64x3584 .f32) (K : BODYOF F PUnit) :
    ∀ (n j : ℕ) (hn : j + n ≤ 28) (C : Vec F S128x3584 .fp8e4m3),
      iprop(Own c arg7 C ∗ Own c arg13 Y
        ∗ ((Own c arg7 (fillA r (cT inv (tileB Y)) n j hn C) ∗ Own c arg13 Y) -∗ Wp c E K Q))
      ⊢ Wp c E (pass3 arg7 harg7 arg13 r inv K n j hn) Q := by
  intro n
  induction n with
  | zero =>
    intro j hn C
    simp only [pass3, fillA]
    iintro ⟨H7, H13, Hk⟩
    iapply Hk
    iframe
  | succ n ih =>
    intro j hn C
    iintro ⟨H7, H13, Hk⟩
    unfold pass3 col3
    iapply (wp_load_owns Variants.none (c : Thread nD τ) none E) $$ H13
    iintro H13
    iapply (wp_load_owns Variants.none (c : Thread nD τ) none E) $$ H7
    iintro H7
    iapply (wp_store_owns Variants.none (c : Thread nD τ) none E) $$ H7
    iintro H7
    iapply (ih (j + 1) _ _)
    iframe
    iexact Hk

theorem mask_spec (Q : PUnit.{1} → sProp 𝕄) (r : Fin 2) (arg6 : Memref sig .tc .vmem S2048x256 .bf16) (arg9 : Memref sig .tc .vmem S128x448 .i8) (harg9 : arg9.IsWhole)
    (arg12 : Memref sig .tc .vmem S64x3584 .bf16) (x6 : Vec F S2048x256 .bf16) (M : Vec F S128x448 .i8) (B : Vec F S64x3584 .bf16)
    (K : BODYOF F PUnit) :
    iprop(Own c arg6 x6 ∗ Own c arg9 M ∗ Own c arg12 B
        ∗ ((Own c arg6 x6 ∗ Own c arg9 (maskOf x6 r B M) ∗ Own c arg12 B) -∗ Wp c E K Q))
      ⊢ Wp c E (maskPart arg6 arg9 harg9 arg12 r K) Q := by
  iintro ⟨H6, H9, H12, Hk⟩
  unfold maskPart
  iapply (wp_load_owns Variants.none (c : Thread nD τ) none E) $$ H12
  iintro H12
  iapply (wp_load_owns Variants.none (c : Thread nD τ) none E) $$ H6
  iintro H6
  iapply (wp_load_owns Variants.none (c : Thread nD τ) none E) $$ H9
  iintro H9
  iapply (wp_store_owns Variants.none (c : Thread nD τ) none E) $$ H9
  iintro H9
  iapply (wp_load_owns Variants.none (c : Thread nD τ) none E) $$ H12
  iintro H12
  iapply (wp_load_owns Variants.none (c : Thread nD τ) none E) $$ H6
  iintro H6
  iapply (wp_load_owns Variants.none (c : Thread nD τ) none E) $$ H9
  iintro H9
  iapply (wp_store_owns Variants.none (c : Thread nD τ) none E) $$ H9
  iintro H9
  iapply Hk
  unfold maskOf
  iframe

end Cert.KernelIdeal.Rolled

end
-- ==== Proof.Tiles.lean ====
/-
  What a buffer holds once its tiles have been put into it, read tile by tile and index by index.
-/
module

public import proofs.«01_k».proof.Proof.Body
public import Idealize.ShloMosaic.Lib.Pointwise

@[expose] public section

set_option maxRecDepth 16384

noncomputable section

namespace Cert.KernelIdeal.Rolled

open Idealize.ShloMosaic Idealize.ShloMosaic.TcCoe Idealize.ShloMosaic.VecWindow
open Cert.KernelIdeal.Gen

variable {F : FTy → Type} [FloatOps F] {α : Type}

/-- A filled block's tile: the payload where the fill has been, else what was there. -/
theorem tileA_fillA (r : Fin 2) (T : Tiles α) : ∀ (n j : ℕ) (hn : j + n ≤ 28) (X : S128x3584.Idx → α) (c : ℕ) (hc : c < 28),
    tileA r (fillA r T n j hn X) c hc = if j ≤ c ∧ c < j + n then T c hc else tileA r X c hc := by
  intro n
  induction n with
  | zero => intro j hn X c hc; rw [if_neg (by omega)]; rfl
  | succ n ih =>
    intro j hn X c hc
    rw [fillA, ih]
    by_cases h : c = j
    · subst h
      rw [if_neg (by omega), if_pos (by omega)]
      exact window_put_same _ _ _ _ _
    · by_cases h' : j + 1 ≤ c ∧ c < j + 1 + n
      · rw [if_pos h', if_pos (by omega)]
      · rw [if_neg h', if_neg (by omega)]
        exact window_put_of_disjoint _ _ _ _ _ _ _ 1 (by
          show 128 * c + 128 ≤ 128 * j ∨ 128 * j + 128 ≤ 128 * c; omega)

/-- A fill of one chunk leaves the other chunk's tiles. -/
theorem tileA_fillA_other (r r' : Fin 2) (hr : r ≠ r') (T : Tiles α) : ∀ (n j : ℕ) (hn : j + n ≤ 28) (X : S128x3584.Idx → α) (c : ℕ) (hc : c < 28),
    tileA r' (fillA r T n j hn X) c hc = tileA r' X c hc := by
  intro n
  have hv : r.val ≠ r'.val := fun h => hr (Fin.ext h)
  induction n with
  | zero => intro j hn X c hc; rfl
  | succ n ih =>
    intro j hn X c hc
    rw [fillA, ih]
    exact window_put_of_disjoint _ _ _ _ _ _ _ 0 (by
      show 64 * r'.val + 64 ≤ 64 * r.val ∨ 64 * r.val + 64 ≤ 64 * r'.val; omega)

/-- A filled buffer's tile: the payload where the fill has been, else what was there. -/
theorem tileB_fillB (T : Tiles α) : ∀ (n j : ℕ) (hn : j + n ≤ 28) (X : S64x3584.Idx → α) (c : ℕ) (hc : c < 28),
    tileB (fillB T n j hn X) c hc = if j ≤ c ∧ c < j + n then T c hc else tileB X c hc := by
  intro n
  induction n with
  | zero => intro j hn X c hc; rw [if_neg (by omega)]; rfl
  | succ n ih =>
    intro j hn X c hc
    rw [fillB, ih]
    by_cases h : c = j
    · subst h
      rw [if_neg (by omega), if_pos (by omega)]
      exact window_put_same _ _ _ _ _
    · by_cases h' : j + 1 ≤ c ∧ c < j + 1 + n
      · rw [if_pos h', if_pos (by omega)]
      · rw [if_neg h', if_neg (by omega)]
        exact window_put_of_disjoint _ _ _ _ _ _ _ 1 (by
          show 128 * c + 128 ≤ 128 * j ∨ 128 * j + 128 ≤ 128 * c; omega)

/-- All of a chunk's tiles put. -/
theorem tileA_fill (r : Fin 2) (T : Tiles α) (X : S128x3584.Idx → α) : tileA r (fillA r T 28 0 (Nat.le_refl 28) X) = T := by
  funext c hc; rw [tileA_fillA, if_pos (by omega)]

theorem tileB_fill (T : Tiles α) (X : S64x3584.Idx → α) : tileB (fillB T 28 0 (Nat.le_refl 28) X) = T := by
  funext c hc; rw [tileB_fillB, if_pos (by omega)]

/-- The whole block from its two chunks' tiles. -/
def glueA (T0 T1 : Tiles α) : S128x3584.Idx → α := fun y =>
  (if (y 0).val < 64 then T0 else T1) ((y 1).val / 128) (by have : (y 1).val < 3584 := (y 1).isLt; omega)
    (ix2 ⟨(y 0).val % 64, Nat.mod_lt _ (by decide)⟩ ⟨(y 1).val % 128, Nat.mod_lt _ (by decide)⟩)

/-- A block read through its tile. -/
theorem tileA_at (r : Fin 2) (X : S128x3584.Idx → α) (y : S128x3584.Idx) (hr : (y 0).val / 64 = r.val) :
    X y = tileA r X ((y 1).val / 128) (by have : (y 1).val < 3584 := (y 1).isLt; omega)
      (ix2 ⟨(y 0).val % 64, Nat.mod_lt _ (by decide)⟩ ⟨(y 1).val % 128, Nat.mod_lt _ (by decide)⟩) := by
  refine congrArg X (funext fun a => Fin.ext ?_)
  fin_cases a
  · show (y 0).val = 64 * r.val + 1 * ((y 0).val % 64); omega
  · show (y 1).val = 128 * ((y 1).val / 128) + 1 * ((y 1).val % 128); omega

/-- A buffer read through its tile. -/
theorem tileB_at (X : S64x3584.Idx → α) (y : S64x3584.Idx) :
    X y = tileB X ((y 1).val / 128) (by have : (y 1).val < 3584 := (y 1).isLt; omega)
      (ix2 (y 0) ⟨(y 1).val % 128, Nat.mod_lt _ (by decide)⟩) := by
  refine congrArg X (funext fun a => Fin.ext ?_)
  fin_cases a
  · show (y 0).val = 0 + 1 * (y 0).val; omega
  · show (y 1).val = 128 * ((y 1).val / 128) + 1 * ((y 1).val % 128); omega

/-- Both chunks put: nothing of what was there is left. -/
theorem fill_both (T0 T1 : Tiles α) (X : S128x3584.Idx → α) :
    fillA 1 T1 28 0 (Nat.le_refl 28) (fillA 0 T0 28 0 (Nat.le_refl 28) X) = glueA T0 T1 := by
  funext y
  have hy : (y 0).val < 128 := (y 0).isLt
  unfold glueA
  by_cases h : (y 0).val < 64
  · rw [tileA_at 0 (fillA 1 T1 28 0 (Nat.le_refl 28) (fillA 0 T0 28 0 (Nat.le_refl 28) X)) y (by show _ = 0; omega), tileA_fillA_other 1 0 (by decide), tileA_fill, if_pos h]
  · rw [tileA_at 1 (fillA 1 T1 28 0 (Nat.le_refl 28) (fillA 0 T0 28 0 (Nat.le_refl 28) X)) y (by show _ = 1; omega), tileA_fill, if_neg h]

/-- All tiles of a buffer put: nothing of what was there is left. -/
def glueB (T : Tiles α) : S64x3584.Idx → α := fun y =>
  T ((y 1).val / 128) (by have : (y 1).val < 3584 := (y 1).isLt; omega) (ix2 (y 0) ⟨(y 1).val % 128, Nat.mod_lt _ (by decide)⟩)

theorem fill_all (T : Tiles α) (X : S64x3584.Idx → α) : fillB T 28 0 (Nat.le_refl 28) X = glueB T := by
  funext y
  rw [tileB_at (fillB T 28 0 (Nat.le_refl 28) X) y, tileB_fill]; rfl

/-- The mask's two parts of one chunk. -/
abbrev MaskParts (F : FTy → Type) := (S64x256.Idx → Elt F .i8) × (S64x192.Idx → Elt F .i8)

/-- The whole mask block from its two chunks' parts. -/
def glueM (p0 p1 : MaskParts F) : S128x448.Idx → Elt F .i8 := fun y =>
  if h : (y 1).val < 256 then (if (y 0).val < 64 then p0 else p1).1 (ix2 ⟨(y 0).val % 64, Nat.mod_lt _ (by decide)⟩ ⟨(y 1).val, h⟩)
  else (if (y 0).val < 64 then p0 else p1).2 (ix2 ⟨(y 0).val % 64, Nat.mod_lt _ (by decide)⟩
    ⟨(y 1).val - 256, by have : (y 1).val < 448 := (y 1).isLt; omega⟩)

/-- The two parts of a chunk's mask. -/
def maskParts (x6 : Vec F S2048x256 .bf16) (B : Vec F S64x3584 .bf16) : MaskParts F :=
  (k0_pay260 (window B ![0, 0] S64x2048.size inb_S64x3584_S64x2048_0_0) (window x6 ![0, 0] S2048x256.size inb_S2048x256_S2048x256_0_0),
   k0_pay261 (window B ![0, 2048] S64x1536.size inb_S64x3584_S64x1536_0_2048) (window x6 ![0, 0] S1536x256.size inb_S2048x256_S1536x256_0_0))

theorem put_in {s : Shape} (X : s.Idx → α) (off size : Fin s.rank → ℕ) (w : ((a : Fin s.rank) → Fin (size a)) → α) (y : s.Idx)
    (z : (a : Fin s.rank) → Fin (size a)) (h : ∀ a, (y a).val = off a + (z a).val) : put X off size w y = w z := by
  unfold put
  have hh : ∀ a, off a ≤ (y a).val ∧ (y a).val < off a + size a := fun a => by have := h a; have := (z a).isLt; omega
  rw [dif_pos hh]
  exact congrArg w (funext fun a => Fin.ext (by show (y a).val - off a = (z a).val; have := h a; omega))

theorem put_out {s : Shape} (X : s.Idx → α) (off size : Fin s.rank → ℕ) (w : ((a : Fin s.rank) → Fin (size a)) → α) (y : s.Idx)
    (a : Fin s.rank) (h : (y a).val < off a ∨ off a + size a ≤ (y a).val) : put X off size w y = X y := by
  unfold put
  rw [dif_neg (fun hh => by have := hh a; omega)]

theorem mask_both (x6 : Vec F S2048x256 .bf16) (B0 B1 : Vec F S64x3584 .bf16) (M : Vec F S128x448 .i8) :
    maskOf x6 1 B1 (maskOf x6 0 B0 M) = glueM (maskParts x6 B0) (maskParts x6 B1) := by
  funext y
  have hy : (y 0).val < 128 := (y 0).isLt
  have hy1 : (y 1).val < 448 := (y 1).isLt
  unfold glueM
  by_cases h1 : (y 1).val < 256 <;> by_cases h0 : (y 0).val < 64
  · rw [dif_pos h1, if_pos h0]
    unfold maskOf
    rw [put_out _ _ _ _ y 1 (by left; exact h1), put_out _ _ _ _ y 0 (by left; exact h0), put_out _ _ _ _ y 1 (by left; exact h1)]
    refine put_in (s := S128x448) _ _ S64x256.size _ y (ix2 (n0 := 64) (n1 := 256) ⟨(y 0).val % 64, Nat.mod_lt _ (by decide)⟩ ⟨(y 1).val, h1⟩) fun a => ?_
    fin_cases a
    · show (y 0).val = 64 * 0 + (y 0).val % 64; omega
    · show (y 1).val = 0 + (y 1).val; omega
  · rw [dif_pos h1, if_neg h0]
    unfold maskOf
    rw [put_out _ _ _ _ y 1 (by left; exact h1)]
    refine put_in (s := S128x448) _ _ S64x256.size _ y (ix2 (n0 := 64) (n1 := 256) ⟨(y 0).val % 64, Nat.mod_lt _ (by decide)⟩ ⟨(y 1).val, h1⟩) fun a => ?_
    fin_cases a
    · show (y 0).val = 64 * 1 + (y 0).val % 64; omega
    · show (y 1).val = 0 + (y 1).val; omega
  · rw [dif_neg h1, if_pos h0]
    unfold maskOf
    rw [put_out _ _ _ _ y 0 (by left; exact h0), put_out _ _ _ _ y 0 (by left; exact h0)]
    refine put_in (s := S128x448) _ _ S64x192.size _ y (ix2 (n0 := 64) (n1 := 192) ⟨(y 0).val % 64, Nat.mod_lt _ (by decide)⟩ ⟨(y 1).val - 256, by omega⟩) fun a => ?_
    fin_cases a
    · show (y 0).val = 64 * 0 + (y 0).val % 64; omega
    · show (y 1).val = 256 + ((y 1).val - 256); omega
  · rw [dif_neg h1, if_neg h0]
    unfold maskOf
    refine put_in (s := S128x448) _ _ S64x192.size _ y (ix2 (n0 := 64) (n1 := 192) ⟨(y 0).val % 64, Nat.mod_lt _ (by decide)⟩ ⟨(y 1).val - 256, by omega⟩) fun a => ?_
    fin_cases a
    · show (y 0).val = 64 * 1 + (y 0).val % 64; omega
    · show (y 1).val = 256 + ((y 1).val - 256); omega

/-- The `n` rows of slice `k` of the statistics from row `i` on put into a 6 by 256 array. -/
def fillR (D : Vec F S2x12x1x128 .f32) (k : Fin 2) (p : Vec F S1x1x1x128 .f32 → FVec F S1x128 .f32) :
    (n i : ℕ) → i + n ≤ 12 → Vec F S6x256 .f32 → Vec F S6x256 .f32
  | 0, _, _, X => X
  | n + 1, i, hn, X => fillR D k p n (i + 1) (by omega)
      (put X ![i / 2, 128 * (i % 2)] S1x128.size (p (window D ![k.val, i, 0, 0] S1x1x1x128.size (inbS k (by omega)))))

/-- A row of the statistics, as a 6 by 256 array reads it. -/
def rowsOf (D : Vec F S2x12x1x128 .f32) (k : Fin 2) : Vec F S6x256 .f32 := fun y =>
  D (ix4 k ⟨2 * (y 0).val + (y 1).val / 128, by
      have h0 : (y 0).val < 6 := (y 0).isLt
      have h1 : (y 1).val < 256 := (y 1).isLt
      omega⟩ 0 ⟨(y 1).val % 128, Nat.mod_lt _ (by decide)⟩)

theorem fillR_apply (D : Vec F S2x12x1x128 .f32) (k : Fin 2) (p : Vec F S1x1x1x128 .f32 → FVec F S1x128 .f32)
    (hp : ∀ v (l : Fin 128), p v (ix2 0 l) = v (ix4 0 0 0 l)) : ∀ (n i : ℕ) (hn : i + n ≤ 12) (X : Vec F S6x256 .f32) (y : S6x256.Idx),
    fillR D k p n i hn X y = if i ≤ 2 * (y 0).val + (y 1).val / 128 ∧ 2 * (y 0).val + (y 1).val / 128 < i + n then rowsOf D k y else X y := by
  intro n
  induction n with
  | zero => intro i hn X y; rw [if_neg (by omega)]; rfl
  | succ n ih =>
    intro i hn X y
    have h0 : (y 0).val < 6 := (y 0).isLt
    have h1 : (y 1).val < 256 := (y 1).isLt
    rw [fillR, ih]
    by_cases h : 2 * (y 0).val + (y 1).val / 128 = i
    · rw [if_neg (by omega), if_pos (by omega)]
      refine (put_in (s := S6x256) X ![i / 2, 128 * (i % 2)] S1x128.size _ y (ix2 (n0 := 1) (n1 := 128) 0 ⟨(y 1).val % 128, Nat.mod_lt _ (by decide)⟩) (fun a => by
        fin_cases a
        · show (y 0).val = i / 2 + 0; omega
        · show (y 1).val = 128 * (i % 2) + (y 1).val % 128; omega)).trans ?_
      refine (hp _ _).trans ?_
      refine congrArg D (funext fun a => Fin.ext ?_)
      fin_cases a
      · show k.val + 1 * 0 = k.val; omega
      · show i + 1 * 0 = 2 * (y 0).val + (y 1).val / 128; omega
      · rfl
      · show 0 + 1 * ((y 1).val % 128) = (y 1).val % 128; omega
    · have e : put X ![i / 2, 128 * (i % 2)] S1x128.size (p (window D ![k.val, i, 0, 0] S1x1x1x128.size (inbS k (by omega)))) y = X y := by
        by_cases ha : (y 0).val = i / 2
        · refine put_out _ _ _ _ y 1 ?_
          show (y 1).val < 128 * (i % 2) ∨ 128 * (i % 2) + 128 ≤ (y 1).val
          omega
        · refine put_out _ _ _ _ y 0 ?_
          show (y 0).val < i / 2 ∨ i / 2 + 1 ≤ (y 0).val
          omega
      rw [e]
      by_cases h' : i + 1 ≤ 2 * (y 0).val + (y 1).val / 128 ∧ 2 * (y 0).val + (y 1).val / 128 < i + 1 + n
      · rw [if_pos h', if_pos (by omega)]
      · rw [if_neg h', if_neg (by omega)]

theorem pay3_apply (v : Vec F S1x1x1x128 .f32) (l : Fin 128) : k0_pay3 v (ix2 0 l) = v (ix4 0 0 0 l) := by
  pointwise [k0_pay3]

theorem pay4_apply (v : Vec F S1x1x1x128 .f32) (l : Fin 128) : k0_pay4 v (ix2 0 l) = v (ix4 0 0 0 l) := by
  pointwise [k0_pay4]

theorem fillR_all (D : Vec F S2x12x1x128 .f32) (k : Fin 2) (p : Vec F S1x1x1x128 .f32 → FVec F S1x128 .f32)
    (hp : ∀ v (l : Fin 128), p v (ix2 0 l) = v (ix4 0 0 0 l)) (X : Vec F S6x256 .f32) :
    fillR D k p 12 0 (Nat.le_refl 12) X = rowsOf D k := by
  funext y
  have h0 : (y 0).val < 6 := (y 0).isLt
  have h1 : (y 1).val < 256 := (y 1).isLt
  rw [fillR_apply D k p hp, if_pos (by omega)]

end Cert.KernelIdeal.Rolled

end
-- ==== Proof.RolledEq.lean ====
/-
  The printed body is the rolled one of `Rolled`.
-/
module

public import proofs.«01_k».proof.Proof.Rolled

@[expose] public section

set_option synthInstance.maxSize 4096

noncomputable section

namespace Cert.KernelIdeal.Rolled

open Idealize.ShloMosaic Idealize.SL.Sem Cert.KernelIdeal.Gen

variable {F : FTy → Type} [FloatOps F]

set_option maxRecDepth 1000000 in
set_option maxHeartbeats 0 in
/-- The printed body is the rolled one. -/
theorem body_eq_rolled (i : grid0.Coords) (arg1 : Memref sig .tc .vmem S128x3584 .bf16) (harg1 : arg1.IsWhole) (arg2 : Memref sig .tc .vmem S128x3584 .bf16) (harg2 : arg2.IsWhole) (arg3 : Memref sig .tc .vmem S1x3584 .f32) (harg3 : arg3.IsWhole) (arg4 : Memref sig .tc .vmem S128x3584 .i32) (harg4 : arg4.IsWhole) (arg5 : Memref sig .tc .vmem S1x3584 .f32) (harg5 : arg5.IsWhole) (arg6 : Memref sig .tc .vmem S2048x256 .bf16) (harg6 : arg6.IsWhole) (arg7 : Memref sig .tc .vmem S128x3584 .fp8e4m3) (harg7 : arg7.IsWhole) (arg8 : Memref sig .tc .vmem S6x256 .f32) (harg8 : arg8.IsWhole) (arg9 : Memref sig .tc .vmem S128x448 .i8) (harg9 : arg9.IsWhole) (arg10 : Memref sig .tc .vmem S6x256 .f32) (harg10 : arg10.IsWhole) (arg11 : Memref sig .tc .vmem S128x3584 .bf16) (harg11 : arg11.IsWhole) (arg12 : Memref sig .tc .vmem S64x3584 .bf16) (harg12 : arg12.IsWhole) (arg13 : Memref sig .tc .vmem S64x3584 .f32) (harg13 : arg13.IsWhole) (arg14 : Memref sig .tc .vmem S2x12x1x128 .f32) (harg14 : arg14.IsWhole) :
    cc0_bda_rmsnorm_fp8_skel (F := F) i arg1 harg1 arg2 harg2 arg3 harg3 arg4 harg4 arg5 harg5 arg6 harg6 arg7 harg7 arg8 harg8 arg9 harg9 arg10 harg10 arg11 harg11 arg12 harg12 arg13 harg13 arg14 harg14
      = rolled arg1 arg2 arg3 arg4 arg5 arg6 arg7 harg7 arg8 arg9 harg9 arg10 arg11 harg11 arg12 harg12 arg13 arg14 i := by
  rfl

end Cert.KernelIdeal.Rolled

end
-- ==== Proof.Run.lean ====
/-
  What one run of the body leaves in its buffers: each output as a function of the point's input blocks.
-/
module

public import proofs.«01_k».proof.Proof.Tiles
public import proofs.«01_k».proof.Proof.RolledEq

@[expose] public section

set_option synthInstance.maxSize 4096
set_option maxRecDepth 16384

noncomputable section

namespace Cert.KernelIdeal.Rolled

open Idealize.ShloMosaic Idealize.ShloMosaic.TcCoe Idealize.ShloMosaic.VecWindow
open Idealize.SL Idealize.SL.RA Idealize.SL.BI
open scoped Idealize.SL.BI
open Idealize.SL.BI.BIBase Idealize.SL.BI.Laws Idealize.SL.ProofMode Idealize.SL.Sem
open Cert.KernelIdeal.Gen Cert.Values

variable {F : FTy → Type} [FloatOps F]

local notation "𝕄" => MT nD τ sig Unit (Elt F) ℕ (UR sig nD τ) ℕ

/-- A chunk's sum of squares, lane by lane. -/
def chunkSsq (h : Tiles (Elt F .bf16)) : FVec F S64x128 .f32 := foldT ssqStep h 28 0 (Nat.le_refl 28) zeroTile

/-- A chunk's row factors. -/
def chunkRs (h : Tiles (Elt F .bf16)) : FVec F S64x1 .f32 := k0_pay151 (chunkSsq h)

/-- A chunk's largest magnitudes, lane by lane. -/
def chunkMax (x5 : Vec F S1x3584 .f32) (h : Tiles (Elt F .bf16)) : FVec F S64x128 .f32 :=
  foldT maxStep (yT x5 (chunkRs h) h) 28 0 (Nat.le_refl 28) zeroTile

/-- A chunk's codes, from the residual's tiles. -/
def chunkCodes (x5 : Vec F S1x3584 .f32) (h : Tiles (Elt F .bf16)) : Tiles (Elt F .fp8e4m3) :=
  cT (k0_pay225 (chunkMax x5 h)) (castT (yT x5 (chunkRs h) h))

/-- A chunk's mask. -/
def chunkMask (x4 : Vec F S128x3584 .i32) (x6 : Vec F S2048x256 .bf16) (r : Fin 2) : MaskParts F := maskParts x6 (glueB (bT x4 r))

variable (c : Dev nD) (E : Set ℕ)

section

variable (arg1 : Memref sig .tc .vmem S128x3584 .bf16) (arg2 : Memref sig .tc .vmem S128x3584 .bf16)
  (arg3 : Memref sig .tc .vmem S1x3584 .f32) (arg4 : Memref sig .tc .vmem S128x3584 .i32)
  (arg5 : Memref sig .tc .vmem S1x3584 .f32) (arg6 : Memref sig .tc .vmem S2048x256 .bf16)
  (arg7 : Memref sig .tc .vmem S128x3584 .fp8e4m3) (harg7 : arg7.IsWhole)
  (arg8 : Memref sig .tc .vmem S6x256 .f32)
  (arg9 : Memref sig .tc .vmem S128x448 .i8) (harg9 : arg9.IsWhole)
  (arg10 : Memref sig .tc .vmem S6x256 .f32)
  (arg11 : Memref sig .tc .vmem S128x3584 .bf16) (harg11 : arg11.IsWhole)
  (arg12 : Memref sig .tc .vmem S64x3584 .bf16) (harg12 : arg12.IsWhole)
  (arg13 : Memref sig .tc .vmem S64x3584 .f32) (arg14 : Memref sig .tc .vmem S2x12x1x128 .f32)
  (x1 x2 : Vec F S128x3584 .bf16) (x3 : Vec F S1x3584 .f32) (x4 : Vec F S128x3584 .i32) (x5 : Vec F S1x3584 .f32)
  (x6 : Vec F S2048x256 .bf16)

/-- One chunk. -/
theorem chunk_spec (Q : PUnit.{1} → sProp 𝕄) (r : Fin 2) (K : FVec F S64x1 .f32 → FVec F S64x128 .f32 → BODYOF F PUnit)
    (C : Vec F S128x3584 .fp8e4m3) (M : Vec F S128x448 .i8) (H : Vec F S128x3584 .bf16) (B : Vec F S64x3584 .bf16) (Y : Vec F S64x3584 .f32) :
    iprop(Own c arg1 x1 ∗ Own c arg2 x2 ∗ Own c arg3 x3 ∗ Own c arg4 x4 ∗ Own c arg5 x5 ∗ Own c arg6 x6
        ∗ Own c arg7 C ∗ Own c arg9 M ∗ Own c arg11 H ∗ Own c arg12 B ∗ Own c arg13 Y
        ∗ ((Own c arg1 x1 ∗ Own c arg2 x2 ∗ Own c arg3 x3 ∗ Own c arg4 x4 ∗ Own c arg5 x5 ∗ Own c arg6 x6
            ∗ Own c arg7 (fillA r (chunkCodes x5 (hT x1 x2 x3 x4 r)) 28 0 (Nat.le_refl 28) C)
            ∗ Own c arg9 (maskOf x6 r (glueB (bT x4 r)) M)
            ∗ Own c arg11 (fillA r (hT x1 x2 x3 x4 r) 28 0 (Nat.le_refl 28) H)
            ∗ Own c arg12 (glueB (bT x4 r))
            ∗ (∃ Y, Own c arg13 Y))
          -∗ Wp c E (K (chunkRs (hT x1 x2 x3 x4 r)) (chunkMax x5 (hT x1 x2 x3 x4 r))) Q))
      ⊢ Wp c E (chunk arg1 arg2 arg3 arg4 arg5 arg6 arg7 harg7 arg9 harg9 arg11 harg11 arg12 harg12 arg13 r K) Q := by
  iintro ⟨H1, H2, H3, H4, H5, H6, H7, H9, H11, H12, H13, Hk⟩
  unfold chunk
  iapply (pass1_spec c E Q r arg1 arg2 arg3 arg4 arg11 harg11 arg12 harg12 x1 x2 x3 x4 _ 28 0 (Nat.le_refl 28) zeroTile H B)
  isplitl [H1]; · iexact H1
  isplitl [H2]; · iexact H2
  isplitl [H3]; · iexact H3
  isplitl [H4]; · iexact H4
  isplitl [H11]; · iexact H11
  isplitl [H12]; · iexact H12
  iintro ⟨H1, H2, H3, H4, H11, H12⟩
  iapply (pass2_spec c E Q r arg5 arg11 arg13 x5 _ _ _ 28 0 (Nat.le_refl 28) zeroTile Y)
  isplitl [H5]; · iexact H5
  isplitl [H11]; · iexact H11
  isplitl [H13]; · iexact H13
  rw [tileA_fill]
  iintro ⟨H5, H11, H13⟩
  iapply (pass3_spec c E Q r arg7 harg7 arg13 _ _ _ 28 0 (Nat.le_refl 28) C)
  isplitl [H7]; · iexact H7
  isplitl [H13]; · iexact H13
  rw [tileB_fill]
  iintro ⟨H7, H13⟩
  iapply (mask_spec c E Q r arg6 arg9 harg9 arg12 x6 M _ _)
  isplitl [H6]; · iexact H6
  isplitl [H9]; · iexact H9
  isplitl [H12]; · iexact H12
  rw [fill_all (bT x4 r)]
  iintro ⟨H6, H9, H12⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  iexists _
  iexact H13

/-- The rows copied out. -/
theorem copyRows_spec (Q : PUnit.{1} → sProp 𝕄) (D : Vec F S2x12x1x128 .f32) : ∀ (n i : ℕ) (hn : i + n ≤ 12) (A B : Vec F S6x256 .f32),
    iprop(Own c arg8 A ∗ Own c arg10 B ∗ Own c arg14 D
        ∗ ((Own c arg8 (fillR D 1 k0_pay4 n i hn A) ∗ Own c arg10 (fillR D 0 k0_pay3 n i hn B) ∗ Own c arg14 D) -∗ Q ⟨⟩))
      ⊢ Wp c E (copyRows arg8 arg10 arg14 n i hn) Q := by
  intro n
  induction n with
  | zero =>
    intro i hn A B
    simp only [copyRows, fillR]
    iintro ⟨H8, H10, H14, Hk⟩
    rw [Wp, wp_ret]; imodintro
    iapply Hk
    iframe
  | succ n ih =>
    intro i hn A B
    iintro ⟨H8, H10, H14, Hk⟩
    unfold copyRows copyRow
    iapply (wp_load_owns Variants.none (c : Thread nD τ) none E) $$ H14
    iintro H14
    iapply (wp_load_owns Variants.none (c : Thread nD τ) none E) $$ H10
    iintro H10
    iapply (wp_store_owns Variants.none (c : Thread nD τ) none E) $$ H10
    iintro H10
    iapply (wp_load_owns Variants.none (c : Thread nD τ) none E) $$ H14
    iintro H14
    iapply (wp_load_owns Variants.none (c : Thread nD τ) none E) $$ H8
    iintro H8
    iapply (wp_store_owns Variants.none (c : Thread nD τ) none E) $$ H8
    iintro H8
    iapply (ih (i + 1) _ _ _)
    iframe
    iexact Hk

/-- The statistics with the point's two rows put. -/
def statPut (i : grid0.Coords) (D : Vec F S2x12x1x128 .f32) (rs0 rs1 sc0 sc1 : FVec F S64x1 .f32) : Vec F S2x12x1x128 .f32 :=
  put (put D (k0_off1 i) S1x1x1x128.size (k0_pay1 (k0_pay501 rs0 rs1))) (k0_off2 i) S1x1x1x128.size (k0_pay2 (k0_pay500 sc0 sc1))

/-- The end of the body: away from the last point the two row arrays stay; -/
theorem finish_spec_A (Q : PUnit.{1} → sProp 𝕄) (i : grid0.Coords) (hc : ¬ k0_cond1 i = 1#1) (rs0 rs1 sc0 sc1 : FVec F S64x1 .f32)
    (D : Vec F S2x12x1x128 .f32) :
    iprop(Own c arg14 D ∗ (Own c arg14 (statPut i D rs0 rs1 sc0 sc1) -∗ Q ⟨⟩))
      ⊢ Wp c E (finish arg8 arg10 arg14 i rs0 rs1 sc0 sc1) Q := by
  iintro ⟨H14, Hk⟩
  unfold finish
  iapply (wp_load_owns Variants.none (c : Thread nD τ) none E) $$ H14
  iintro H14
  iapply (wp_store_owns Variants.none (c : Thread nD τ) none E) $$ H14
  iintro H14
  iapply (wp_load_owns Variants.none (c : Thread nD τ) none E) $$ H14
  iintro H14
  iapply (wp_store_owns Variants.none (c : Thread nD τ) none E) $$ H14
  iintro H14
  rw [if_neg hc]
  rw [wp_ret]; imodintro
  iapply Hk
  iexact H14

/-- at the last point they become the statistics' rows. -/
theorem finish_spec_B (Q : PUnit.{1} → sProp 𝕄) (i : grid0.Coords) (hc : k0_cond1 i = 1#1) (rs0 rs1 sc0 sc1 : FVec F S64x1 .f32)
    (D : Vec F S2x12x1x128 .f32) (A B : Vec F S6x256 .f32) :
    iprop(Own c arg8 A ∗ Own c arg10 B ∗ Own c arg14 D
        ∗ ((Own c arg8 (rowsOf (statPut i D rs0 rs1 sc0 sc1) 1) ∗ Own c arg10 (rowsOf (statPut i D rs0 rs1 sc0 sc1) 0)
            ∗ Own c arg14 (statPut i D rs0 rs1 sc0 sc1)) -∗ Q ⟨⟩))
      ⊢ Wp c E (finish arg8 arg10 arg14 i rs0 rs1 sc0 sc1) Q := by
  iintro ⟨H8, H10, H14, Hk⟩
  unfold finish
  iapply (wp_load_owns Variants.none (c : Thread nD τ) none E) $$ H14
  iintro H14
  iapply (wp_store_owns Variants.none (c : Thread nD τ) none E) $$ H14
  iintro H14
  iapply (wp_load_owns Variants.none (c : Thread nD τ) none E) $$ H14
  iintro H14
  iapply (wp_store_owns Variants.none (c : Thread nD τ) none E) $$ H14
  iintro H14
  rw [if_pos hc]
  iapply (copyRows_spec c E arg8 arg10 arg14 Q _ 12 0 (Nat.le_refl 12) A B)
  isplitl [H8]; · iexact H8
  isplitl [H10]; · iexact H10
  isplitl [H14]; · iexact H14
  rw [fillR_all _ 1 k0_pay4 pay4_apply, fillR_all _ 0 k0_pay3 pay3_apply]
  iexact Hk

/-- The residual's block. -/
def hBlk : Vec F S128x3584 .bf16 := glueA (hT x1 x2 x3 x4 0) (hT x1 x2 x3 x4 1)
/-- The codes' block. -/
def cBlk : Vec F S128x3584 .fp8e4m3 := glueA (chunkCodes x5 (hT x1 x2 x3 x4 0)) (chunkCodes x5 (hT x1 x2 x3 x4 1))
/-- The mask's block. -/
def mBlk : Vec F S128x448 .i8 := glueM (chunkMask x4 x6 0) (chunkMask x4 x6 1)
/-- The statistics after the point. -/
def dBlk (i : grid0.Coords) (D : Vec F S2x12x1x128 .f32) : Vec F S2x12x1x128 .f32 :=
  statPut i D (chunkRs (hT x1 x2 x3 x4 0)) (chunkRs (hT x1 x2 x3 x4 1))
    (k0_pay224 (chunkMax x5 (hT x1 x2 x3 x4 0))) (k0_pay224 (chunkMax x5 (hT x1 x2 x3 x4 1)))

/-- The two chunks, up to the body's end. -/
theorem rolled_chunks (Q : PUnit.{1} → sProp 𝕄) (i : grid0.Coords)
    (C : Vec F S128x3584 .fp8e4m3) (M : Vec F S128x448 .i8) (H : Vec F S128x3584 .bf16) (B : Vec F S64x3584 .bf16) (Y : Vec F S64x3584 .f32) :
    iprop(Own c arg1 x1 ∗ Own c arg2 x2 ∗ Own c arg3 x3 ∗ Own c arg4 x4 ∗ Own c arg5 x5 ∗ Own c arg6 x6
        ∗ Own c arg7 C ∗ Own c arg9 M ∗ Own c arg11 H ∗ Own c arg12 B ∗ Own c arg13 Y
        ∗ ((Own c arg1 x1 ∗ Own c arg2 x2 ∗ Own c arg3 x3 ∗ Own c arg4 x4 ∗ Own c arg5 x5 ∗ Own c arg6 x6
            ∗ Own c arg7 (cBlk x1 x2 x3 x4 x5) ∗ Own c arg9 (mBlk x4 x6) ∗ Own c arg11 (hBlk x1 x2 x3 x4)
            ∗ (∃ B, Own c arg12 B) ∗ (∃ Y, Own c arg13 Y))
          -∗ Wp c E (finish arg8 arg10 arg14 i (chunkRs (hT x1 x2 x3 x4 0)) (chunkRs (hT x1 x2 x3 x4 1))
            (k0_pay224 (chunkMax x5 (hT x1 x2 x3 x4 0))) (k0_pay224 (chunkMax x5 (hT x1 x2 x3 x4 1)))) Q))
      ⊢ Wp c E (rolled arg1 arg2 arg3 arg4 arg5 arg6 arg7 harg7 arg8 arg9 harg9 arg10 arg11 harg11 arg12 harg12 arg13 arg14 i) Q := by
  iintro ⟨H1, H2, H3, H4, H5, H6, H7, H9, H11, H12, H13, Hk⟩
  unfold rolled
  iapply (chunk_spec c E arg1 arg2 arg3 arg4 arg5 arg6 arg7 harg7 arg9 harg9 arg11 harg11 arg12 harg12 arg13 x1 x2 x3 x4 x5 x6 Q 0 _ C M H B Y)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  isplitl [H13]; · iexact H13
  iintro ⟨H1, H2, H3, H4, H5, H6, H7, H9, H11, H12, ⟨%Y', H13⟩⟩
  iapply (chunk_spec c E arg1 arg2 arg3 arg4 arg5 arg6 arg7 harg7 arg9 harg9 arg11 harg11 arg12 harg12 arg13 x1 x2 x3 x4 x5 x6 Q 1 _ _ _ _ _ Y')
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  isplitl [H13]; · iexact H13
  rw [fill_both, fill_both, mask_both]
  iintro ⟨H1, H2, H3, H4, H5, H6, H7, H9, H11, H12, ⟨%Y'', H13⟩⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexists _; iexact H12
  iexists _
  iexact H13

end

end Cert.KernelIdeal.Rolled

end
-- ==== Proof.Dats.lean ====
/-
  The pipeline's proof data: what each output's block holds after the body at each point, what the carried statistics hold between
  points, and the run of the whole program to these contents.
-/
module

public import proofs.«01_k».proof.Proof.Run
public import proofs.«01_k».proof.Proof.Gen.KernelIdeal.Frame
public import Idealize.ShloMosaic.Lib.Claim

@[expose] public section

set_option synthInstance.maxSize 4096
set_option maxRecDepth 16384

noncomputable section

namespace Cert.KernelIdeal.Rolled

open Idealize.ShloMosaic Idealize.ShloMosaic.TcCoe Idealize.ShloMosaic.VecWindow Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.Values

variable {F : FTy → Type} [FloatOps F]

local notation "𝕄" => MT nD τ sig Unit (Elt F) ℕ (UR sig nD τ) ℕ

/-- A point's row of the statistics. -/
def rowVal (rs0 rs1 sc0 sc1 : FVec F S64x1 .f32) (k : Fin 2) (l : Fin 128) : Elt F .f32 :=
  if k = 0 then k0_pay1 (k0_pay501 rs0 rs1) (ix4 0 0 0 l) else k0_pay2 (k0_pay500 sc0 sc1) (ix4 0 0 0 l)

/-- The statistics with a point's rows put: those rows, and the others as they were. -/
theorem statPut_apply (i : grid0.Coords) (D : Vec F S2x12x1x128 .f32) (rs0 rs1 sc0 sc1 : FVec F S64x1 .f32) (k : Fin 2) (j : Fin 12) (l : Fin 128) :
    statPut i D rs0 rs1 sc0 sc1 (ix4 k j 0 l) = if j.val = (i 0).val then rowVal rs0 rs1 sc0 sc1 k l else D (ix4 k j 0 l) := by
  unfold statPut
  rw [k0_off1_eq, k0_off2_eq]
  by_cases hj : j.val = (i 0).val
  · rw [if_pos hj]
    unfold rowVal
    by_cases hk : k = 0
    · subst hk
      rw [if_pos rfl, put_out _ _ _ _ _ 0 (by left; show 0 < 1; omega)]
      refine put_in (s := S2x12x1x128) _ _ S1x1x1x128.size _ _ (ix4 (n0 := 1) (n1 := 1) (n2 := 1) (n3 := 128) 0 0 0 l) fun a => ?_
      fin_cases a
      · rfl
      · show j.val = (i 0).val + 0; omega
      · rfl
      · show l.val = 0 + l.val; omega
    · have hk1 : k.val = 1 := by
        have h1 := k.isLt
        have h2 : k.val ≠ 0 := fun h => hk (Fin.ext h)
        omega
      rw [if_neg hk]
      refine put_in (s := S2x12x1x128) _ _ S1x1x1x128.size _ _ (ix4 (n0 := 1) (n1 := 1) (n2 := 1) (n3 := 128) 0 0 0 l) fun a => ?_
      fin_cases a
      · show k.val = 1 + 0; omega
      · show j.val = (i 0).val + 0; omega
      · rfl
      · show l.val = 0 + l.val; omega
  · rw [if_neg hj, put_out _ _ _ _ _ 1 (by show j.val < (i 0).val ∨ (i 0).val + 1 ≤ j.val; omega),
      put_out _ _ _ _ _ 1 (by show j.val < (i 0).val ∨ (i 0).val + 1 ≤ j.val; omega)]

/-! ## The body's run -/

section

variable (c : Dev nD) (E : Set ℕ) (i : grid0.Coords)
  (arg1 : Memref sig .tc .vmem S128x3584 .bf16) (harg1 : arg1.IsWhole) (arg2 : Memref sig .tc .vmem S128x3584 .bf16) (harg2 : arg2.IsWhole)
  (arg3 : Memref sig .tc .vmem S1x3584 .f32) (harg3 : arg3.IsWhole) (arg4 : Memref sig .tc .vmem S128x3584 .i32) (harg4 : arg4.IsWhole)
  (arg5 : Memref sig .tc .vmem S1x3584 .f32) (harg5 : arg5.IsWhole) (arg6 : Memref sig .tc .vmem S2048x256 .bf16) (harg6 : arg6.IsWhole)
  (arg7 : Memref sig .tc .vmem S128x3584 .fp8e4m3) (harg7 : arg7.IsWhole) (arg8 : Memref sig .tc .vmem S6x256 .f32) (harg8 : arg8.IsWhole)
  (arg9 : Memref sig .tc .vmem S128x448 .i8) (harg9 : arg9.IsWhole) (arg10 : Memref sig .tc .vmem S6x256 .f32) (harg10 : arg10.IsWhole)
  (arg11 : Memref sig .tc .vmem S128x3584 .bf16) (harg11 : arg11.IsWhole) (arg12 : Memref sig .tc .vmem S64x3584 .bf16) (harg12 : arg12.IsWhole)
  (arg13 : Memref sig .tc .vmem S64x3584 .f32) (harg13 : arg13.IsWhole) (arg14 : Memref sig .tc .vmem S2x12x1x128 .f32) (harg14 : arg14.IsWhole)
  (x1 x2 : Vec F S128x3584 .bf16) (x3 : Vec F S1x3584 .f32) (x4 : Vec F S128x3584 .i32) (x5 : Vec F S1x3584 .f32)
  (x6 : Vec F S2048x256 .bf16)

/-- Away from the last point. -/
theorem body_A (Q : PUnit.{1} → sProp 𝕄) (hc : ¬ k0_cond1 i = 1#1)
    (C : Vec F S128x3584 .fp8e4m3) (M : Vec F S128x448 .i8) (H : Vec F S128x3584 .bf16) (B : Vec F S64x3584 .bf16) (Y : Vec F S64x3584 .f32)
    (D : Vec F S2x12x1x128 .f32) :
    iprop(Own c arg1 x1 ∗ Own c arg2 x2 ∗ Own c arg3 x3 ∗ Own c arg4 x4 ∗ Own c arg5 x5 ∗ Own c arg6 x6
        ∗ Own c arg7 C ∗ Own c arg9 M ∗ Own c arg11 H ∗ Own c arg12 B ∗ Own c arg13 Y ∗ Own c arg14 D
        ∗ ((Own c arg1 x1 ∗ Own c arg2 x2 ∗ Own c arg3 x3 ∗ Own c arg4 x4 ∗ Own c arg5 x5 ∗ Own c arg6 x6
            ∗ Own c arg7 (cBlk x1 x2 x3 x4 x5) ∗ Own c arg9 (mBlk x4 x6) ∗ Own c arg11 (hBlk x1 x2 x3 x4)
            ∗ (∃ B, Own c arg12 B) ∗ (∃ Y, Own c arg13 Y) ∗ Own c arg14 (dBlk x1 x2 x3 x4 x5 i D)) -∗ Q ⟨⟩))
      ⊢ Wp c E (cc0_bda_rmsnorm_fp8 i arg1 harg1 arg2 harg2 arg3 harg3 arg4 harg4 arg5 harg5 arg6 harg6 arg7 harg7 arg8 harg8 arg9 harg9 arg10 harg10 arg11 harg11 arg12 harg12 arg13 harg13 arg14 harg14) Q := by
  rw [cc0_bda_rmsnorm_fp8_eq_skeleton, body_eq_rolled]
  iintro ⟨H1, H2, H3, H4, H5, H6, H7, H9, H11, H12, H13, H14, Hk⟩
  iapply (rolled_chunks c E arg1 arg2 arg3 arg4 arg5 arg6 arg7 harg7 arg8 arg9 harg9 arg10 arg11 harg11 arg12 harg12 arg13 arg14 x1 x2 x3 x4 x5 x6 Q i C M H B Y)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  isplitl [H13]; · iexact H13
  iintro ⟨H1, H2, H3, H4, H5, H6, H7, H9, H11, HB, HY⟩
  iapply (finish_spec_A c E arg8 arg10 arg14 Q i hc _ _ _ _ D)
  isplitl [H14]; · iexact H14
  iintro H14
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [HB]; · iexact HB
  isplitl [HY]; · iexact HY
  iexact H14

/-- At the last point. -/
theorem body_B (Q : PUnit.{1} → sProp 𝕄) (hc : k0_cond1 i = 1#1)
    (C : Vec F S128x3584 .fp8e4m3) (M : Vec F S128x448 .i8) (H : Vec F S128x3584 .bf16) (B : Vec F S64x3584 .bf16) (Y : Vec F S64x3584 .f32)
    (D : Vec F S2x12x1x128 .f32) (S R : Vec F S6x256 .f32) :
    iprop(Own c arg1 x1 ∗ Own c arg2 x2 ∗ Own c arg3 x3 ∗ Own c arg4 x4 ∗ Own c arg5 x5 ∗ Own c arg6 x6
        ∗ Own c arg7 C ∗ Own c arg8 S ∗ Own c arg9 M ∗ Own c arg10 R ∗ Own c arg11 H ∗ Own c arg12 B ∗ Own c arg13 Y ∗ Own c arg14 D
        ∗ ((Own c arg1 x1 ∗ Own c arg2 x2 ∗ Own c arg3 x3 ∗ Own c arg4 x4 ∗ Own c arg5 x5 ∗ Own c arg6 x6
            ∗ Own c arg7 (cBlk x1 x2 x3 x4 x5) ∗ Own c arg8 (rowsOf (dBlk x1 x2 x3 x4 x5 i D) 1) ∗ Own c arg9 (mBlk x4 x6)
            ∗ Own c arg10 (rowsOf (dBlk x1 x2 x3 x4 x5 i D) 0) ∗ Own c arg11 (hBlk x1 x2 x3 x4)
            ∗ (∃ B, Own c arg12 B) ∗ (∃ Y, Own c arg13 Y) ∗ Own c arg14 (dBlk x1 x2 x3 x4 x5 i D)) -∗ Q ⟨⟩))
      ⊢ Wp c E (cc0_bda_rmsnorm_fp8 i arg1 harg1 arg2 harg2 arg3 harg3 arg4 harg4 arg5 harg5 arg6 harg6 arg7 harg7 arg8 harg8 arg9 harg9 arg10 harg10 arg11 harg11 arg12 harg12 arg13 harg13 arg14 harg14) Q := by
  rw [cc0_bda_rmsnorm_fp8_eq_skeleton, body_eq_rolled]
  iintro ⟨H1, H2, H3, H4, H5, H6, H7, H8, H9, H10, H11, H12, H13, H14, Hk⟩
  iapply (rolled_chunks c E arg1 arg2 arg3 arg4 arg5 arg6 arg7 harg7 arg8 arg9 harg9 arg10 arg11 harg11 arg12 harg12 arg13 arg14 x1 x2 x3 x4 x5 x6 Q i C M H B Y)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H11]; · iexact H11
  isplitl [H12]; · iexact H12
  isplitl [H13]; · iexact H13
  iintro ⟨H1, H2, H3, H4, H5, H6, H7, H9, H11, HB, HY⟩
  iapply (finish_spec_B c E arg8 arg10 arg14 Q i hc _ _ _ _ D S R)
  isplitl [H8]; · iexact H8
  isplitl [H10]; · iexact H10
  isplitl [H14]; · iexact H14
  iintro ⟨H8, H10, H14⟩
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HB]; · iexact HB
  isplitl [HY]; · iexact HY
  iexact H14

end

/-! ## The proof data -/

variable (m : (ℓ : Loc nD τ sig) → Buf (Elt F) ℓ) (ρ : Dev nD → PrngReg)

/-- The residual's tiles at a point. -/
def hAt (c : Dev nD) (t : Fin cfg0.N) (r : Fin 2) : Tiles (Elt F .bf16) := hT (iblk m c 0 t) (iblk m c 1 t) (iblk m c 2 t) (iblk m c 3 t) r

/-- A point's row of the statistics. -/
def statAt (c : Dev nD) (t : Fin cfg0.N) : Fin 2 → Fin 128 → Elt F .f32 :=
  rowVal (chunkRs (hAt m c t 0)) (chunkRs (hAt m c t 1)) (k0_pay224 (chunkMax (iblk m c 4 t) (hAt m c t 0))) (k0_pay224 (chunkMax (iblk m c 4 t) (hAt m c t 1)))

/-- The statistics of all points. -/
def statArr (c : Dev nD) : Vec F S2x12x1x128 .f32 := fun y =>
  statAt m c ⟨(y 1).val, lt_of_lt_of_eq (show (y 1).val < 12 from (y 1).isLt) (show cfg0.N = 12 from N_0).symm⟩ (y 0) (y 3)

/-- The codes' block after a point. -/
def codesAt (c : Dev nD) (t : Fin cfg0.N) : Vec F S128x3584 .fp8e4m3 := cBlk (iblk m c 0 t) (iblk m c 1 t) (iblk m c 2 t) (iblk m c 3 t) (iblk m c 4 t)
/-- The mask's block after a point. -/
def maskAt (c : Dev nD) (t : Fin cfg0.N) : Vec F S128x448 .i8 := mBlk (iblk m c 3 t) (iblk m c 5 t)
/-- The residual's block after a point. -/
def resAt (c : Dev nD) (t : Fin cfg0.N) : Vec F S128x3584 .bf16 := hBlk (iblk m c 0 t) (iblk m c 1 t) (iblk m c 2 t) (iblk m c 3 t)

/-- The three scratch buffers. -/
abbrev scM0_0 : Memref sig .tc .vmem S64x3584 .bf16 := Memref.whole cc0_scratch0
abbrev scM0_1 : Memref sig .tc .vmem S64x3584 .f32 := Memref.whole cc0_scratch1
abbrev scM0_2 : Memref sig .tc .vmem S2x12x1x128 .f32 := Memref.whole cc0_scratch2

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Between points: the rows of the points run so far are in the statistics. -/
def Phi (c : Dev nD) (n : ℕ) : sProp 𝕄 :=
  iprop((∃ d, Own c scM0_0 d) ∗ (∃ d, Own c scM0_1 d)
    ∗ (∃ D, ⌜∀ (k : Fin 2) (j : Fin 12) (l : Fin 128), j.val < n → D (ix4 k j 0 l) = statArr m c (ix4 k j 0 l)⌝ ∗ Own c scM0_2 D)
    ∗ (∃ r, prngReg c r))

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => rowsOf (statArr m c) 1
    | ⟨8, _⟩ => maskAt m c t
    | ⟨9, _⟩ => rowsOf (statArr m c) 0
    | ⟨10, _⟩ => resAt m c t
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = rowsOf (statArr m c) 1 := by dsimp only [dats]
theorem after0_8 (c : Dev nD) (t : Fin cfg0.N) : (dats m 0 c).after 8 t = maskAt m c t := by dsimp only [dats]
theorem after0_9 (c : Dev nD) (t : Fin cfg0.N) : (dats m 0 c).after 9 t = rowsOf (statArr m c) 0 := by dsimp only [dats]
theorem after0_10 (c : Dev nD) (t : Fin cfg0.N) : (dats m 0 c).after 10 t = resAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The staging buffers at a point. -/
abbrev ms0_0 (t : Fin cfg0.N) : Memref sig .tc .vmem S128x3584 .bf16 := win0_0.stage (cfg0.slots t 0)
abbrev ms0_1 (t : Fin cfg0.N) : Memref sig .tc .vmem S128x3584 .bf16 := win0_1.stage (cfg0.slots t 1)
abbrev ms0_2 (t : Fin cfg0.N) : Memref sig .tc .vmem S1x3584 .f32 := win0_2.stage (cfg0.slots t 2)
abbrev ms0_3 (t : Fin cfg0.N) : Memref sig .tc .vmem S128x3584 .i32 := win0_3.stage (cfg0.slots t 3)
abbrev ms0_4 (t : Fin cfg0.N) : Memref sig .tc .vmem S1x3584 .f32 := win0_4.stage (cfg0.slots t 4)
abbrev ms0_5 (t : Fin cfg0.N) : Memref sig .tc .vmem S2048x256 .bf16 := win0_5.stage (cfg0.slots t 5)
abbrev ms0_6 (t : Fin cfg0.N) : Memref sig .tc .vmem S128x3584 .fp8e4m3 := win0_6.stage (cfg0.slots t 6)
abbrev ms0_7 (t : Fin cfg0.N) : Memref sig .tc .vmem S6x256 .f32 := win0_7.stage (cfg0.slots t 7)
abbrev ms0_8 (t : Fin cfg0.N) : Memref sig .tc .vmem S128x448 .i8 := win0_8.stage (cfg0.slots t 8)
abbrev ms0_9 (t : Fin cfg0.N) : Memref sig .tc .vmem S6x256 .f32 := win0_9.stage (cfg0.slots t 9)
abbrev ms0_10 (t : Fin cfg0.N) : Memref sig .tc .vmem S128x3584 .bf16 := win0_10.stage (cfg0.slots t 10)

/-- The last point is the one that copies the statistics out. -/
theorem hcond0_0 : ∀ t : Fin cfg0.N, k0_cond1 (grid0.coords t) = 1#1 ↔ t.val % 12 = 11 :=
  (fun t => by
    have ht : t.val < 12 := Nat.lt_of_lt_of_eq t.isLt N_0
    have e0 : (grid0.coords t 0).val = t.val / 1 % 12 := Pipeline.Grid.coords_val t 0 (by decide) rfl
    simp only [k0_cond1, e0]
    word_cmp
   : ∀ t : Fin grid0.N, k0_cond1 (grid0.coords t) = 1#1 ↔ t.val % 12 = 11)

theorem coords0 (t : Fin cfg0.N) : (grid0.coords t 0).val = t.val := by
  have ht : t.val < 12 := Nat.lt_of_lt_of_eq t.isLt N_0
  have e0 : (grid0.coords t 0).val = t.val / 1 % 12 := Pipeline.Grid.coords_val t 0 (by decide) rfl
  omega

/-- The statistics after a point, on the rows run so far. -/
theorem stat_step (c : Dev nD) (t : Fin cfg0.N) (D : Vec F S2x12x1x128 .f32)
    (h : ∀ (k : Fin 2) (j : Fin 12) (l : Fin 128), j.val < t.val → D (ix4 k j 0 l) = statArr m c (ix4 k j 0 l)) :
    ∀ (k : Fin 2) (j : Fin 12) (l : Fin 128), j.val < t.val + 1 →
      dBlk (iblk m c 0 t) (iblk m c 1 t) (iblk m c 2 t) (iblk m c 3 t) (iblk m c 4 t) (grid0.coords t) D (ix4 k j 0 l) = statArr m c (ix4 k j 0 l) := by
  intro k j l hj
  unfold dBlk
  rw [statPut_apply, coords0]
  by_cases e : j.val = t.val
  · rw [if_pos e]
    have et : (⟨j.val, lt_of_lt_of_eq j.isLt (show cfg0.N = 12 from N_0).symm⟩ : Fin cfg0.N) = t := Fin.ext e
    show _ = statAt m c ⟨j.val, _⟩ k l
    rw [et]; rfl
  · rw [if_neg e]; exact h k j l (by omega)

/-- All rows run: the whole statistics. -/
theorem stat_all (c : Dev nD) (D : Vec F S2x12x1x128 .f32)
    (h : ∀ (k : Fin 2) (j : Fin 12) (l : Fin 128), D (ix4 k j 0 l) = statArr m c (ix4 k j 0 l)) : D = statArr m c := by
  funext y
  have e : y = ix4 (n0 := 2) (n1 := 12) (n2 := 1) (n3 := 128) (y 0) (y 1) 0 (y 3) := by
    rw [← Subsingleton.elim (α := Fin 1) (y 2) 0]; exact eq_ix4 y
  rw [e]; exact h _ _ _

/-! ## The body obligation -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t ∗ (dats m 0 c).leavesExact 6 t ∗ (dats m 0 c).leavesExact 7 t
    ∗ (dats m 0 c).leavesExact 8 t ∗ (dats m 0 c).leavesExact 9 t ∗ (dats m 0 c).leavesExact 10 t)

/-- A window that is not idle is left at its contents. -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- A window that is idle, at a point that does not write it back, is left as it was found. -/
theorem leaves_idle (c : Dev nD) (w : Fin cfg0.W) (t : Fin cfg0.N) (h : cfg0.idle w (cfg0.grid.coords t) = true) (hf : (cfg0.win w).flush t = false) :
    (dats m 0 c).leavesExact w t = iprop(∃ d, owns (c : Thread nD τ) ((cfg0.win w).stage (cfg0.slots t w)) fullShare ((dats m 0 c).before w t d)) := by
  unfold Dat.leavesExact; rw [h, hf]

set_option maxHeartbeats 2400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  have hN : t.val < 12 := lt_of_lt_of_eq t.isLt (show cfg0.N = 12 from N_0)
  rw [leaves_live m c 0 t rfl, leaves_live m c 1 t rfl, leaves_live m c 2 t rfl, leaves_live m c 3 t rfl, leaves_live m c 4 t rfl,
    leaves_live m c 5 t rfl, leaves_live m c 6 t rfl, leaves_live m c 8 t rfl, leaves_live m c 10 t rfl]
  rw [after0_0, after0_1, after0_2, after0_3, after0_4, after0_5, after0_6, after0_8, after0_10]
  unfold Phi
  by_cases h0 : t.val % 12 = 11
  · have hc := (hcond0_0 t).mpr h0
    have hi : (!(k0_cond1 (grid0.coords t) == 1#1)) = false := by rw [hc]; rfl
    rw [leaves_live m c 7 t hi, leaves_live m c 9 t hi, after0_7, after0_9]
    iintro ⟨⟨⟨%B, HS0⟩, ⟨%Y, HS1⟩, ⟨%D, %hD, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    have hD' := stat_step m c t D hD
    have hA := stat_all m c _ (fun k j l => hD' k j l (by omega))
    iapply (body_B c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) _ hc _ _ _ B Y D _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    isplitl [HS2]; · iexact HS2
    rw [hA]
    iintro ⟨H0, H1, H2, H3, H4, H5, H6, H7, H8, H9, H10, HS0, HS1, HS2⟩
    isplitl [HS0 HS1 HS2 Hg]
    · isplitl [HS0]; · iexact HS0
      isplitl [HS1]; · iexact HS1
      isplitl [HS2]
      · iexists _
        isplitr; swap; · iexact HS2
        ipureintro; exact fun _ _ _ _ => rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · have hc : ¬ k0_cond1 (grid0.coords t) = 1#1 := fun h => h0 ((hcond0_0 t).mp h)
    have hi : (!(k0_cond1 (grid0.coords t) == 1#1)) = true := by simp [hc]
    have hf7 : (cfg0.win 7).flush t = false := by
      cases h : (cfg0.win 7).flush t
      · rfl
      · exact absurd ((flush0_7 t).mp h) h0
    have hf9 : (cfg0.win 9).flush t = false := by
      cases h : (cfg0.win 9).flush t
      · rfl
      · exact absurd ((flush0_9 t).mp h) h0
    rw [leaves_idle m c 7 t hi hf7, leaves_idle m c 9 t hi hf9]
    iintro ⟨⟨⟨%B, HS0⟩, ⟨%Y, HS1⟩, ⟨%D, %hD, HS2⟩, Hg⟩, Ho, ⟨%d0, H0⟩, ⟨%d1, H1⟩, ⟨%d2, H2⟩, ⟨%d3, H3⟩, ⟨%d4, H4⟩, ⟨%d5, H5⟩, ⟨%d6, H6⟩, H7, ⟨%d8, H8⟩, H9, ⟨%d10, H10⟩⟩
    iapply (body_A c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) _ hc _ _ _ B Y D)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H10]; · iexact H10
    isplitl [HS0]; · iexact HS0
    isplitl [HS1]; · iexact HS1
    isplitl [HS2]; · iexact HS2
    iintro ⟨H0, H1, H2, H3, H4, H5, H6, H8, H10, HS0, HS1, HS2⟩
    isplitl [HS0 HS1 HS2 Hg]
    · isplitl [HS0]; · iexact HS0
      isplitl [HS1]; · iexact HS1
      isplitl [HS2]
      · iexists _
        isplitr; swap; · iexact HS2
        ipureintro; exact stat_step m c t D hD
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phi_in (c : Dev nD) : Pipeline.ΦA spec0 c ⊢ (dats m 0 c).Φ 0 := by
  rw [PhiA0_eq, show (dats m 0 c).Φ 0 = Phi m c 0 from rfl]
  unfold Phi
  iintro ⟨⟨H0, H1, ⟨%D, H2⟩⟩, Hg⟩
  isplitl [H0]; · iexact H0
  isplitl [H1]; · iexact H1
  isplitl [H2]
  · iexists D
    isplitr; swap; · iexact H2
    ipureintro; exact fun _ _ _ h => absurd h (Nat.not_lt_zero _)
  iexact Hg

theorem phi_out (c : Dev nD) : (dats m 0 c).Φ (Fin.last cfg0.N) ⊢ Pipeline.ΦA spec0 c := by
  rw [PhiA0_eq, show (dats m 0 c).Φ (Fin.last cfg0.N) = Phi m c cfg0.N from rfl]
  unfold Phi
  iintro ⟨H0, H1, ⟨%D, -, H2⟩, Hg⟩
  isplitl [H0 H1 H2]
  · isplitl [H0]; · iexact H0
    isplitl [H1]; · iexact H1
    iexists D; iexact H2
  iexact Hg

set_option backward.isDefEq.respectTransparency.types false in
/-- The launch: every array ends at the proof data's contents, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_in m) (hout := phi_out m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Rolled

end
-- ==== Proof.Payloads.lean ====
/-
  Each step of the kernel's body at an index, over the extended reals.
-/
module

public import proofs.«01_k».proof.Proof.Dats
public import proofs.«01_k».proof.Proof.Scale

@[expose] public section

set_option maxRecDepth 16384

noncomputable section

namespace Cert.KernelIdeal.Rolled

open Idealize.ShloMosaic Idealize.ShloMosaic.TcCoe Idealize.ShloMosaic.VecWindow Idealize.ShloMosaic.Tactic
open Cert.KernelIdeal.Gen Cert.Values

theorem pay28_at (v1 : Vec Ideal S64x128 .i32) (v5 : Vec Ideal S64x128 .bf16) (v8 : Vec Ideal S1x128 .f32) (v16 : Vec Ideal S64x128 .bf16) (r : Fin 64) (l : Fin 128) :
    k0_pay28 v1 v5 v8 v16 (ix2 r l) = hS (v16 (ix2 r l)) (v5 (ix2 r l)) (v8 (ix2 0 l)) (v1 (ix2 r l)) := by
  pointwise [k0_pay28, k0_pay27]
  rfl

/-- A keep bit as the kernel's dot takes it. -/
def bitS (u : BitVec 32) : EReal := FloatOps.sitofp (F := Ideal) .f32 (BitVec.setWidth 32 (keepS u))

theorem pay29_at (v1 : Vec Ideal S64x128 .i32) (r : Fin 64) (l : Fin 128) : k0_pay29 (F := Ideal) v1 (ix2 r l) = bitS (v1 (ix2 r l)) := by
  pointwise [k0_pay29, k0_pay27]
  rfl

theorem pay151_at (v : FVec Ideal S64x128 .f32) (r : Fin 64) :
    k0_pay151 v (ix2 r 0) = Ideal.rsqrt (Ideal.div (∑ l, v (ix2 r l)) (Ideal.ofBits .f32 0x45600000#32) + Ideal.ofBits .f32 0x3727C5AC#32) := by
  pointwise [k0_pay151]

theorem pay160_at (rs : FVec Ideal S64x1 .f32) (h : Vec Ideal S64x128 .bf16) (g : Vec Ideal S1x128 .f32) (r : Fin 64) (l : Fin 128) :
    k0_pay160 rs h g (ix2 r l) = h (ix2 r l) * rs (ix2 r 0) * g (ix2 0 l) := by
  pointwise [k0_pay160]

theorem pay226_at (inv : FVec Ideal S64x1 .f32) (y : Vec Ideal S64x128 .f32) (r : Fin 64) (l : Fin 128) :
    k0_pay226 inv y (ix2 r l) = codeS (y (ix2 r l)) (inv (ix2 r 0)) := by
  pointwise [k0_pay226]
  rfl

/-- A row's largest lane over the largest code. -/
def laneV (v : FVec Ideal S64x128 .f32) (r : Fin 64) : EReal :=
  Finset.fold max (Ideal.ofBits .f32 0xFF800000#32) (fun x => v (ix2 r x)) Finset.univ * Ideal.ofBits .f32 0x3B124925#32

theorem pay223_at (v : FVec Ideal S64x128 .f32) (r : Fin 64) : k0_pay223 v (ix2 r 0) = expS (laneV v r) := by
  pointwise [k0_pay223]
  rfl

theorem pay224_at (v : FVec Ideal S64x128 .f32) (r : Fin 64) : k0_pay224 v (ix2 r 0) = kscale (laneV v r) := by
  pointwise [k0_pay224]
  rw [pay223_at]
  rfl

theorem pay225_at (v : FVec Ideal S64x128 .f32) (r : Fin 64) : k0_pay225 v (ix2 r 0) = kinv (laneV v r) := by
  pointwise [k0_pay225]
  rw [pay223_at]
  rfl

theorem pay260_at (b : Vec Ideal S64x2048 .bf16) (w : Vec Ideal S2048x256 .bf16) (r : Fin 64) (n : Fin 256) :
    k0_pay260 b w (ix2 r n) = BitVec.setWidth 8 (FloatOps.fptosi (F := Ideal) (φ := .f32) 32 (∑ x, b (ix2 r x) * w (ix2 x n))) := by
  pointwise [k0_pay260]

theorem pay261_at (b : Vec Ideal S64x1536 .bf16) (w : Vec Ideal S1536x256 .bf16) (r : Fin 64) (n : Fin 192) :
    k0_pay261 b w (ix2 r n) = BitVec.setWidth 8 (FloatOps.fptosi (F := Ideal) (φ := .f32) 32 (∑ x, b (ix2 r x) * w (ix2 x ⟨n.val, by omega⟩))) := by
  pointwise [k0_pay261]

theorem rowVal_at (rs0 rs1 sc0 sc1 : FVec Ideal S64x1 .f32) (k : Fin 2) (l : Fin 128) :
    rowVal rs0 rs1 sc0 sc1 k l = if k = 0 then
      (if h : l.val < 64 then rs0 (ix2 ⟨l.val, h⟩ 0) else rs1 (ix2 ⟨l.val - 64, by omega⟩ 0))
      else (if h : l.val < 64 then sc0 (ix2 ⟨l.val, h⟩ 0) else sc1 (ix2 ⟨l.val - 64, by omega⟩ 0)) := by
  unfold rowVal
  congr 1
  · pointwise [k0_pay1, k0_pay501]
  · pointwise [k0_pay2, k0_pay500]

theorem ssq_at (s : FVec Ideal S64x128 .f32) (t : FVec Ideal S64x128 .bf16) (r : Fin 64) (l : Fin 128) :
    ssqStep s t (ix2 r l) = s (ix2 r l) + t (ix2 r l) * t (ix2 r l) := by
  pointwise [ssqStep]

theorem max_at (s : FVec Ideal S64x128 .f32) (t : FVec Ideal S64x128 .f32) (r : Fin 64) (l : Fin 128) :
    maxStep s t (ix2 r l) = max (s (ix2 r l)) (max (t (ix2 r l)) (-(t (ix2 r l)))) := by
  pointwise [maxStep]
  rfl

theorem zero_at (r : Fin 64) (l : Fin 128) : zeroTile (F := Ideal) (ix2 r l) = 0 := by
  pointwise [zeroTile]

theorem castT_at (y : Tiles EReal) (c : ℕ) (hc : c < 28) (r : Fin 64) (l : Fin 128) : castT (F := Ideal) y c hc (ix2 r l) = y c hc (ix2 r l) := by
  pointwise [castT]

/-- A sum of squares over the tiles, lane by lane. -/
theorem fold_ssq (T : Tiles EReal) (r : Fin 64) (l : Fin 128) : ∀ (n c : ℕ) (hn : c + n ≤ 28) (s : FVec Ideal S64x128 .f32),
    foldT (ssqStep (F := Ideal)) T n c hn s (ix2 r l)
      = s (ix2 r l) + ∑ j : Fin n, T (c + j.val) (by omega) (ix2 r l) * T (c + j.val) (by omega) (ix2 r l) := by
  intro n
  induction n with
  | zero => intro c hn s; simp [foldT]
  | succ n ih =>
    intro c hn s
    rw [foldT, ih, ssq_at, Fin.sum_univ_succ, add_assoc]
    refine congrArg _ (congrArg₂ _ rfl (Finset.sum_congr rfl fun j _ => ?_))
    simp only [Fin.val_succ, show c + 1 + j.val = c + (j.val + 1) from by omega]

/-- A largest magnitude over the tiles, lane by lane: what bounds it bounds the start and every tile. -/
theorem fold_max_le (T : Tiles EReal) (r : Fin 64) (l : Fin 128) (b : EReal) : ∀ (n c : ℕ) (hn : c + n ≤ 28) (s : FVec Ideal S64x128 .f32),
    foldT (maxStep (F := Ideal)) T n c hn s (ix2 r l) ≤ b
      ↔ s (ix2 r l) ≤ b ∧ ∀ j : Fin n, max (T (c + j.val) (by omega) (ix2 r l)) (-(T (c + j.val) (by omega) (ix2 r l))) ≤ b := by
  intro n
  induction n with
  | zero => intro c hn s; simp [foldT]
  | succ n ih =>
    intro c hn s
    rw [foldT, ih, max_at, max_le_iff, Fin.forall_fin_succ, and_assoc]
    refine and_congr_right fun _ => and_congr Iff.rfl (forall_congr' fun j => ?_)
    simp only [Fin.val_succ, show c + 1 + j.val = c + (j.val + 1) from by omega]

end Cert.KernelIdeal.Rolled
-- ==== Proof.Bound.lean ====
/-
  With weights that f32 has, the value over which the scale is taken is below a power of two for which both programs have a scale, or
  infinite: a normalised row's values are at most the root of the row's length times the weights.
-/
module

public import proofs.«01_k».proof.Proof.Scale

@[expose] public section

noncomputable section

namespace Cert.Values

open Idealize.ShloMosaic

/-- The largest finite weight. -/
def big : ℝ := 16777215 * (2 : ℝ) ^ (104 : ℕ)

theorem bigOf : Ideal.ofBits .f32 0x7F7FFFFF#32 = ((big : ℝ) : EReal) := by
  have h : Ideal.ofBits .f32 0x7F7FFFFF#32 = Ideal.ieee 8 23 (0x7F7FFFFF#32 : BitVec 32) := rfl
  rw [h]
  unfold Ideal.ieee big
  rw [if_neg (by decide), if_neg (by decide)]
  refine congrArg _ ?_
  rw [if_neg (by decide)]
  rw [show ((0x7F7FFFFF#32 : BitVec 32).extractLsb' 0 23).toNat = 8388607 by decide, show ((0x7F7FFFFF#32 : BitVec 32).extractLsb' 23 8).toNat = 254 by decide]
  norm_num

theorem rowLen : Ideal.ofBits .f32 0x45600000#32 = ((3584 : ℝ) : EReal) := by
  have h : Ideal.ofBits .f32 0x45600000#32 = Ideal.ieee 8 23 (0x45600000#32 : BitVec 32) := rfl
  rw [h]
  unfold Ideal.ieee
  rw [if_neg (by decide), if_neg (by decide)]
  refine congrArg _ ?_
  rw [if_neg (by decide)]
  rw [show ((0x45600000#32 : BitVec 32).extractLsb' 0 23).toNat = 6291456 by decide, show ((0x45600000#32 : BitVec 32).extractLsb' 23 8).toNat = 138 by decide]
  norm_num

theorem epsOf : ∃ e : ℝ, 0 < e ∧ Ideal.ofBits .f32 0x3727C5AC#32 = ((e : ℝ) : EReal) := by
  have h : Ideal.ofBits .f32 0x3727C5AC#32 = Ideal.ieee 8 23 (0x3727C5AC#32 : BitVec 32) := rfl
  rw [h]
  unfold Ideal.ieee
  rw [if_neg (by decide), if_neg (by decide)]
  refine ⟨_, ?_, rfl⟩
  rw [if_neg (by decide)]
  positivity

/-- One over the largest code, as the programs round it. -/
def rcp : ℝ := 9586981 * (2 : ℝ) ^ (-32 : ℤ)

theorem rcpOf : Ideal.ofBits .f32 0x3B124925#32 = ((rcp : ℝ) : EReal) := by
  have h : Ideal.ofBits .f32 0x3B124925#32 = Ideal.ieee 8 23 (0x3B124925#32 : BitVec 32) := rfl
  rw [h]
  unfold Ideal.ieee rcp
  rw [if_neg (by decide), if_neg (by decide)]
  refine congrArg _ ?_
  rw [if_neg (by decide)]
  rw [show ((0x3B124925#32 : BitVec 32).extractLsb' 0 23).toNat = 1198373 by decide, show ((0x3B124925#32 : BitVec 32).extractLsb' 23 8).toNat = 118 by decide]
  norm_num

theorem negInf32 : Ideal.ofBits .f32 0xFF800000#32 = ⊥ := by
  have h : Ideal.ofBits .f32 0xFF800000#32 = Ideal.ieee 8 23 (0xFF800000#32 : BitVec 32) := rfl
  rw [h]
  unfold Ideal.ieee
  rw [if_pos (by decide), if_pos (by decide), if_pos (by decide)]

theorem abs_nonneg' (x : EReal) : 0 ≤ max x (-x) := by
  rcases le_total 0 x with h | h
  · exact le_max_of_le_left h
  · exact le_max_of_le_right (by rwa [EReal.neg_nonneg])

theorem sq_nonneg' (x : EReal) : 0 ≤ x * x := by
  rcases le_total 0 x with h | h
  · exact mul_nonneg h h
  · rw [← neg_mul_neg]
    have : 0 ≤ -x := by rwa [EReal.neg_nonneg]
    exact mul_nonneg this this

/-- A normalised value is at most 60 in magnitude. -/
theorem unit_bound (h : Row) (k : Fin 3584) : ∃ p : ℝ, h k * rsS h = (p : EReal) ∧ |p| ≤ 60 := by
  obtain ⟨e, he, hE⟩ := epsOf
  have hk : h k * h k ≤ ∑ k, h k * h k := Finset.single_le_sum (f := fun k => h k * h k) (fun k _ => sq_nonneg' (h k)) (Finset.mem_univ k)
  have h0 : 0 ≤ ∑ k, h k * h k := Finset.sum_nonneg fun k _ => sq_nonneg' (h k)
  unfold rsS
  generalize (∑ k, h k * h k) = S at hk h0
  rw [rowLen, hE, Ideal.div_coe (by norm_num)]
  generalize h k = x at hk
  by_cases hS : S = ⊤
  · subst hS
    rw [EReal.top_mul_coe_of_pos (by norm_num), EReal.top_add_coe, Ideal.rsqrt_top, mul_zero]
    exact ⟨0, rfl, by norm_num⟩
  · lift S to ℝ using ⟨hS, (lt_of_lt_of_le EReal.bot_lt_zero h0).ne'⟩
    have hx1 : x ≠ ⊤ := by rintro rfl; simp at hk
    have hx2 : x ≠ ⊥ := by rintro rfl; simp at hk
    lift x to ℝ using ⟨hx1, hx2⟩
    have hk' : x * x ≤ S := by exact_mod_cast hk
    have h0' : 0 ≤ S := by exact_mod_cast h0
    have hd : 0 < S * (1 / 3584) + e := by positivity
    rw [← EReal.coe_mul, ← EReal.coe_add, Ideal.rsqrt_coe, if_neg (not_lt.2 hd.le), if_neg hd.ne', ← EReal.coe_mul]
    refine ⟨_, rfl, ?_⟩
    apply abs_le_of_sq_le_sq _ (by norm_num)
    rw [mul_pow, inv_pow, Real.sq_sqrt hd.le, ← div_eq_mul_inv, div_le_iff₀ hd]
    nlinarith

/-- A value of the normalised row is at most 60 times the largest weight in magnitude, or infinite. -/
theorem y_bound (h g : Row) (hg : ∀ k, F32Val (g k)) (k : Fin 3584) :
    max (yS h g k) (-(yS h g k)) ≤ ((60 * big : ℝ) : EReal) ∨ max (yS h g k) (-(yS h g k)) = ⊤ := by
  obtain ⟨p, hp, hb⟩ := unit_bound h k
  have hk := hg k
  unfold F32Val at hk
  unfold yS
  rw [hp]
  generalize g k = x at hk
  have hB : (0 : ℝ) ≤ 60 * big := by unfold big; positivity
  rcases eq_or_ne x ⊤ with rfl | hx1
  · rcases lt_trichotomy p 0 with h | rfl | h
    · right; rw [EReal.coe_mul_top_of_neg h]; simp
    · left; simpa using EReal.coe_nonneg.2 hB
    · right; rw [EReal.coe_mul_top_of_pos h]; simp
  rcases eq_or_ne x ⊥ with rfl | hx2
  · rcases lt_trichotomy p 0 with h | rfl | h
    · right; rw [EReal.coe_mul_bot_of_neg h]; simp
    · left; simpa using EReal.coe_nonneg.2 hB
    · right; rw [EReal.coe_mul_bot_of_pos h]; simp
  left
  lift x to ℝ using ⟨hx1, hx2⟩
  have hk : max (x : EReal) (-x) ≤ Ideal.ofBits .f32 0x7F7FFFFF#32 := by
    rcases hk with hk | hk
    · exact hk
    · rcases max_choice (x : EReal) (-x) with e | e
      · rw [e] at hk; exact absurd hk (EReal.coe_ne_top x)
      · rw [e, ← EReal.coe_neg] at hk; exact absurd hk (EReal.coe_ne_top _)
  rw [bigOf, max_le_iff] at hk
  have hx : |x| ≤ big := abs_le'.2 ⟨by exact_mod_cast hk.1, by exact_mod_cast hk.2⟩
  rw [← EReal.coe_mul, ← EReal.coe_neg, max_le_iff, EReal.coe_le_coe_iff, EReal.coe_le_coe_iff, ← abs_le', abs_mul]
  exact mul_le_mul hb hx (abs_nonneg _) (by norm_num)

/-- The value over which the scale is taken is in the range where both programs have one, or infinite. -/
theorem v_range (h g : Row) (hg : ∀ k, F32Val (g k)) :
    0 ≤ vS (yS h g) ∧ (vS (yS h g) < ((two 253 : ℝ) : EReal) ∨ vS (yS h g) = ⊤) := by
  unfold vS
  rw [negInf32, rcpOf]
  have h0 : 0 ≤ Finset.univ.fold max ⊥ (fun k => max (yS h g k) (-(yS h g k))) := by
    rw [Finset.le_fold_max]
    exact .inr ⟨0, Finset.mem_univ _, abs_nonneg' _⟩
  have hr : 0 < rcp := by unfold rcp; positivity
  by_cases hT : ∃ k, max (yS h g k) (-(yS h g k)) = ⊤
  · obtain ⟨k, hk⟩ := hT
    have e : Finset.univ.fold max ⊥ (fun k => max (yS h g k) (-(yS h g k))) = ⊤ := by
      rw [← top_le_iff, Finset.le_fold_max]
      exact .inr ⟨k, Finset.mem_univ _, hk.ge⟩
    rw [e, EReal.top_mul_coe_of_pos hr]
    exact ⟨le_top, .inr rfl⟩
  have h1 : Finset.univ.fold max ⊥ (fun k => max (yS h g k) (-(yS h g k))) ≤ ((60 * big : ℝ) : EReal) := by
    rw [Finset.fold_max_le]
    exact ⟨bot_le, fun k _ => (y_bound h g hg k).resolve_right fun e => hT ⟨k, e⟩⟩
  generalize Finset.univ.fold max ⊥ (fun k => max (yS h g k) (-(yS h g k))) = a at h0 h1
  lift a to ℝ using ⟨(lt_of_le_of_lt h1 (EReal.coe_lt_top _)).ne, (lt_of_lt_of_le EReal.bot_lt_zero h0).ne'⟩
  rw [EReal.coe_le_coe_iff] at h1
  have h0' : 0 ≤ a := by exact_mod_cast h0
  rw [← EReal.coe_mul, EReal.coe_lt_coe_iff]
  refine ⟨by exact_mod_cast mul_nonneg h0' hr.le, .inl (lt_of_le_of_lt (mul_le_mul_of_nonneg_right h1 hr.le) ?_)⟩
  unfold big rcp two
  norm_num

end Cert.Values
end
-- ==== Proof.Rows.lean ====
/-
  What a chunk of the kernel computes for a row, from the residual sums of the row's tiles.
-/
module

public import proofs.«01_k».proof.Proof.Payloads
public import proofs.«01_k».proof.Proof.Bound

@[expose] public section

set_option maxRecDepth 16384

noncomputable section

namespace Cert.KernelIdeal.Rolled

open Idealize.ShloMosaic Idealize.ShloMosaic.TcCoe Idealize.ShloMosaic.VecWindow Idealize.ShloMosaic.Tactic
open Cert.KernelIdeal.Gen Cert.Values

/-- A row of a chunk, from its tiles. -/
def rowT (T : Tiles EReal) (r : Fin 64) : Row := fun k => T (k.val / 128) (by omega) (ix2 r ⟨k.val % 128, Nat.mod_lt _ (by decide)⟩)

theorem rowT_at (T : Tiles EReal) (r : Fin 64) (c : ℕ) (hc : c < 28) (l : Fin 128) :
    rowT T r ⟨c * 128 + l.val, by omega⟩ = T c hc (ix2 r l) := by
  unfold rowT
  simp only [show (c * 128 + l.val) / 128 = c from by omega, show (c * 128 + l.val) % 128 = l.val from by omega, Fin.eta]

theorem chunkRs_at (h : Tiles EReal) (r : Fin 64) : chunkRs (F := Ideal) h (ix2 r 0) = rsS (rowT h r) := by
  unfold chunkRs chunkSsq
  rw [pay151_at]
  unfold rsS
  refine congrArg (fun s => Ideal.rsqrt (Ideal.div s _ + _)) ?_
  rw [Fin.sum_univ_tiles 28 128 rfl (fun k => rowT h r k * rowT h r k), Finset.sum_comm]
  refine Finset.sum_congr rfl fun l _ => ?_
  rw [fold_ssq, zero_at, zero_add]
  refine Finset.sum_congr rfl fun j _ => ?_
  rw [rowT_at h r j.val j.isLt l]
  simp only [Nat.zero_add]

theorem yT_row (x5 : Vec Ideal S1x3584 .f32) (h : Tiles EReal) (r : Fin 64) (k : Fin 3584) :
    rowT (yT (F := Ideal) x5 (chunkRs (F := Ideal) h) h) r k = yS (rowT h r) (fun k => x5 (ix2 0 k)) k := by
  unfold rowT
  unfold yT
  rw [pay160_at, chunkRs_at]
  unfold yS rowT
  refine congrArg₂ (· * ·) rfl ?_
  refine congrArg x5 (funext fun a => Fin.ext ?_)
  fin_cases a
  · rfl
  · show 128 * (k.val / 128) + 1 * (k.val % 128) = k.val; omega

theorem laneV_at (x5 : Vec Ideal S1x3584 .f32) (h : Tiles EReal) (r : Fin 64) :
    laneV (chunkMax (F := Ideal) x5 h) r = vS (yS (rowT h r) (fun k => x5 (ix2 0 k))) := by
  unfold laneV vS chunkMax
  rw [negInf32]
  refine congrArg (· * _) (eq_of_forall_ge_iff fun b => ?_)
  simp only [Finset.fold_max_le, fold_max_le, zero_at, Finset.mem_univ, true_imp_iff, bot_le, true_and, Nat.zero_add, forall_true_left]
  constructor
  · intro H k
    rw [← yT_row]
    exact (H ⟨k.val % 128, Nat.mod_lt _ (by decide)⟩).2 ⟨k.val / 128, by omega⟩
  · intro H l
    have H' : ∀ j : Fin 28, max (yT (F := Ideal) x5 (chunkRs (F := Ideal) h) h j.val j.isLt (ix2 r l))
        (-(yT (F := Ideal) x5 (chunkRs (F := Ideal) h) h j.val j.isLt (ix2 r l))) ≤ b := by
      intro j
      have := H ⟨j.val * 128 + l.val, by omega⟩
      rwa [← yT_row, rowT_at _ r j.val j.isLt l] at this
    exact ⟨le_trans (abs_nonneg' _) (H' 0), H'⟩

/-- The codes of a chunk's row. -/
theorem codes_at (x5 : Vec Ideal S1x3584 .f32) (h : Tiles EReal) (r : Fin 64) (k : Fin 3584) :
    rowT (chunkCodes (F := Ideal) x5 h) r k
      = codeS (yS (rowT h r) (fun k => x5 (ix2 0 k)) k) (kinv (vS (yS (rowT h r) (fun k => x5 (ix2 0 k))))) := by
  rw [← laneV_at, ← yT_row, ← pay225_at]
  unfold rowT chunkCodes cT
  rw [pay226_at, castT_at]

theorem scale_at (x5 : Vec Ideal S1x3584 .f32) (h : Tiles EReal) (r : Fin 64) :
    k0_pay224 (chunkMax (F := Ideal) x5 h) (ix2 r 0) = kscale (vS (yS (rowT h r) (fun k => x5 (ix2 0 k)))) := by
  rw [pay224_at, laneV_at]

end Cert.KernelIdeal.Rolled
end
-- ==== Proof.Entry.lean ====
/-
  What the kernel's host lines hand to the pallas_call: the reshaped arguments, and the weights of the mask's bits.
-/
module

public import proofs.«01_k».proof.Proof.Gen.KernelIdeal.Frame
public import proofs.«01_k».proof.Proof.Spec
public import Idealize.ShloMosaic.Lib.Claim
public import Idealize.ShloMosaic.Lib.StableHlo.RunRead
public import Idealize.ShloMosaic.Lib.Pipeline.ValueKit

@[expose] public section

set_option maxRecDepth 16384

noncomputable section

namespace Cert.KernelIdeal.Entry

open Idealize.ShloMosaic Idealize.ShloMosaic.TcCoe Idealize.ShloMosaic.Tactic
open Idealize.SL Idealize.SL.Sem
open Cert.KernelIdeal.Gen Cert.Values

section

variable {F : FTy → Type} [FloatOps F] (m : (ℓ : Loc nD τ sig) → Buf (Elt F) ℓ) (c : Dev nD)

theorem V_x : V m c main_v0 = shapeCast S1536x3584 (m ((c : Thread nD τ).loc main_arg0)) shapeCasts_S6x256x3584_S1536x3584 := by
  after_reads_simp
  rfl

theorem V_a : V m c main_v1 = shapeCast S1536x3584 (m ((c : Thread nD τ).loc main_arg1)) shapeCasts_S6x256x3584_S1536x3584 := by
  after_reads_simp
  rfl

theorem V_b : V m c main_v2 = shapeCast S1x3584 (m ((c : Thread nD τ).loc main_arg2)) shapeCasts_S3584_S1x3584 := by
  after_reads_simp
  rfl

theorem V_u : V m c main_v3 = shapeCast S1536x3584 (m ((c : Thread nD τ).loc main_arg3)) shapeCasts_S6x256x3584_S1536x3584 := by
  after_reads_simp
  rfl

theorem V_g : V m c main_v4 = shapeCast S1x3584 (m ((c : Thread nD τ).loc main_arg4)) shapeCasts_S3584_S1x3584 := by
  after_reads_simp
  rfl

/-- A word at every element. -/
def bc (x : IVec S_ 32) : IVec S2048x256 32 := broadcastInDim S2048x256 ![] bcast_S_S2048x256 x

/-- The row's number. -/
def rowI : IVec S2048x256 32 := iotaInDim S2048x256 32 0

/-- The row's number over 8. -/
def divI : IVec S2048x256 32 :=
  select (andi (cmpi .ne (signi rowI) (bc (signi (constantI S_ 32 8#32)))) (cmpi .ne (Host.remsi rowI (bc (constantI S_ 32 8#32))) (bc (constantI S_ 32 0#32))))
    (subi (Host.divsi rowI (bc (constantI S_ 32 8#32))) (bc (constantI S_ 32 1#32))) (Host.divsi rowI (bc (constantI S_ 32 8#32)))

/-- The divisor, eight. -/
def eightI : IVec S_ 32 := select (cmpi .eq (constantI S_ 32 8#32) (constantI S_ 32 0#32)) (constantI S_ 32 1#32) (constantI S_ 32 8#32)

/-- The row's number modulo 8. -/
def remI : IVec S2048x256 32 :=
  select (andi (cmpi .ne (cmpi .slt (Host.remsi rowI (bc eightI)) (bc (constantI S_ 32 0#32)))
      (broadcastInDim S2048x256 ![] bcast_S_S2048x256 (cmpi .slt eightI (constantI S_ 32 0#32)))) (cmpi .ne (Host.remsi rowI (bc eightI)) (bc (constantI S_ 32 0#32))))
    (addi (Host.remsi rowI (bc eightI)) (bc eightI)) (Host.remsi rowI (bc eightI))

/-- The weights. -/
def packT : Vec F S2048x256 .bf16 :=
  sitofp .bf16 (select (cmpi .eq divI (iotaInDim S2048x256 32 1)) (Host.shli (bc (constantI S_ 32 1#32)) remI) (bc (constantI S_ 32 0#32)))

theorem first_div (X : Idealize.ShloMosaic.Valuation τ sig (Elt F)) :
    StableHlo.after (List.flatten [hostOps0, hostOps0_1]) X (Proc.devRef .tc main_v7) = (divI : IVec S2048x256 32) := by
  after_reads_simp
  rfl

theorem first_row (X : Idealize.ShloMosaic.Valuation τ sig (Elt F)) :
    StableHlo.after (List.flatten [hostOps0, hostOps0_1]) X (Proc.devRef .tc main_v5) = (rowI : IVec S2048x256 32) := by
  after_reads_simp
  rfl

theorem first_col (X : Idealize.ShloMosaic.Valuation τ sig (Elt F)) :
    StableHlo.after (List.flatten [hostOps0, hostOps0_1]) X (Proc.devRef .tc main_v6) = (iotaInDim S2048x256 32 1 : IVec S2048x256 32) := by
  after_reads_simp

theorem second_eq (X : Idealize.ShloMosaic.Valuation τ sig (Elt F)) (d i : IVec S2048x256 32)
    (h1 : X (Proc.devRef .tc main_v7) = d) (h2 : X (Proc.devRef .tc main_v6) = i) :
    StableHlo.after (List.flatten [hostOps0_2, hostOps0_3]) X (Proc.devRef .tc main_v8) = (cmpi .eq d i : IVec S2048x256 1) := by
  after_reads_simp
  rw [h1, h2]

theorem second_rem (X : Idealize.ShloMosaic.Valuation τ sig (Elt F)) (h : X (Proc.devRef .tc main_v5) = rowI) :
    StableHlo.after (List.flatten [hostOps0_2, hostOps0_3]) X (Proc.devRef .tc main_v9) = (remI : IVec S2048x256 32) := by
  obtain ⟨Y, hY⟩ : ∃ Y, Y = remI := ⟨_, rfl⟩
  rw [← hY]
  after_reads_simp
  rw [h, hY]
  rfl

theorem third_pack (X : Idealize.ShloMosaic.Valuation τ sig (Elt F)) (b : IVec S2048x256 1) (r : IVec S2048x256 32)
    (h1 : X (Proc.devRef .tc main_v8) = b) (h2 : X (Proc.devRef .tc main_v9) = r) :
    StableHlo.after (List.flatten [hostOps0_4, hostOps0_5, hostOps0_6]) X (Proc.devRef .tc main_v13)
      = (sitofp .bf16 (select b (Host.shli (bc (constantI S_ 32 1#32)) r) (bc (constantI S_ 32 0#32))) : Vec F S2048x256 .bf16) := by
  after_reads_simp
  rw [h1, h2]
  rfl

theorem V_split (b : Ref sig .tc) : V m c b
    = StableHlo.after (List.flatten [hostOps0_4, hostOps0_5, hostOps0_6])
        (StableHlo.after (List.flatten [hostOps0_2, hostOps0_3])
          (StableHlo.after (List.flatten [hostOps0, hostOps0_1]) (fun b => m (c, b)))) (Proc.devRef .tc b) := by
  refine (congrFun (StableHlo.after_append (List.flatten [hostOps0, hostOps0_1]) (List.flatten [hostOps0_2, hostOps0_3, hostOps0_4, hostOps0_5, hostOps0_6]) _) _).trans ?_
  exact congrFun (StableHlo.after_append (List.flatten [hostOps0_2, hostOps0_3]) (List.flatten [hostOps0_4, hostOps0_5, hostOps0_6]) _) _

theorem V_pack : V m c main_v13 = packT (F := F) := by
  rw [V_split]
  exact third_pack _ _ _ (second_eq _ _ _ (first_div _) (first_col _)) (second_rem _ (first_row _))

end

end Cert.KernelIdeal.Entry
end
-- ==== Proof.Weights.lean ====
/-
  The weights of the mask's bits at an index: row `x` weighs `2 ^ (x % 8)` in column `x / 8` and nothing elsewhere.
-/
module

public import proofs.«01_k».proof.Proof.Entry

@[expose] public section

set_option maxRecDepth 16384

noncomputable section

namespace Cert.KernelIdeal.Entry

open Idealize.ShloMosaic Idealize.ShloMosaic.TcCoe Idealize.ShloMosaic.Tactic
open Cert.KernelIdeal.Gen Cert.Values

theorem divI_at (x : Fin 2048) (n : Fin 256) : divI (ix2 x n) = BitVec.ofNat 32 (x.val / 8) := by
  pointwise [divI, rowI, bc]
  have h : ∀ x : Fin 2048, Scalar.select
      (IntOp.andi
        (IntOp.cmpi CmpIPredicate.ne (if BitVec.ofNat 32 x.val = 0 then (0 : BitVec 32) else if (BitVec.ofNat 32 x.val).msb = true then -1 else 1)
          (if 8#32 = 0 then (0 : BitVec 32) else if (8#32).msb = true then -1 else 1))
        (IntOp.cmpi CmpIPredicate.ne (IntOp.remsi ArithUnit.host (BitVec.ofNat 32 x.val) 8#32) 0#32))
      (IntOp.subi (IntOp.divsi ArithUnit.host (BitVec.ofNat 32 x.val) 8#32) 1#32)
      (IntOp.divsi ArithUnit.host (BitVec.ofNat 32 x.val) 8#32) = BitVec.ofNat 32 (x.val / 8) := by decide +kernel
  exact h x

theorem remI_at (x : Fin 2048) (n : Fin 256) : remI (ix2 x n) = BitVec.ofNat 32 (x.val % 8) := by
  pointwise [remI, rowI, bc, eightI]
  clear n
  revert x
  decide +kernel

theorem packT_at (x : Fin 2048) (n : Fin 256) : packT (F := Ideal) (ix2 x n) = if x.val / 8 = n.val then (((2 ^ (x.val % 8) : ℕ) : ℝ) : EReal) else 0 := by
  pointwise [packT, bc]
  rw [divI_at, remI_at]
  have hs : ∀ b : Fin 8, (IntOp.shli ArithUnit.host (1#32) (BitVec.ofNat 32 b.val)).toInt = ((2 ^ b.val : ℕ) : ℤ) := by decide +kernel
  by_cases h : x.val / 8 = n.val
  · rw [if_pos h, h]
    have e : IntOp.cmpi CmpIPredicate.eq (BitVec.ofNat 32 n.val) (BitVec.ofNat 32 n.val) = 1#1 := by simp [IntOp.cmpi]
    rw [e]
    show (((IntOp.shli ArithUnit.host (1#32) (BitVec.ofNat 32 (x.val % 8))).toInt : ℝ) : EReal) = _
    rw [hs ⟨x.val % 8, Nat.mod_lt _ (by decide)⟩]
    norm_cast
  · rw [if_neg h]
    have hne : BitVec.ofNat 32 (x.val / 8) ≠ BitVec.ofNat 32 n.val := by
      intro h'
      have := congrArg BitVec.toNat h'
      simp only [BitVec.toNat_ofNat] at this
      omega
    have e : IntOp.cmpi CmpIPredicate.eq (BitVec.ofNat 32 (x.val / 8)) (BitVec.ofNat 32 n.val) = 0#1 := by
      show BitVec.ofBool (BitVec.ofNat 32 (x.val / 8) == BitVec.ofNat 32 n.val) = 0#1
      rw [beq_eq_false_iff_ne.2 hne]
      rfl
    rw [e]
    show (((0#32 : BitVec 32).toInt : ℝ) : EReal) = 0
    simp

end Cert.KernelIdeal.Entry
end
-- ==== Proof.Mask.lean ====
/-
  A byte of the mask two ways: the kernel's dot of the keep bits with the weights, and the bits shifted into place and added.
-/
module

public import proofs.«01_k».proof.Proof.Rows
public import proofs.«01_k».proof.Proof.Weights

@[expose] public section

set_option maxRecDepth 16384

noncomputable section

namespace Cert.KernelIdeal.Rolled

open Idealize.ShloMosaic Idealize.ShloMosaic.TcCoe Idealize.ShloMosaic.VecWindow Idealize.ShloMosaic.Tactic
open Cert.KernelIdeal.Gen Cert.Values

/-- A weight of the dot. -/
def wS (x n : ℕ) : EReal := if x / 8 = n then (((2 ^ (x % 8) : ℕ) : ℝ) : EReal) else 0

/-- A keep bit as a number. -/
theorem bitS_eq (u : BitVec 32) : bitS u = (((keepS u).toNat : ℝ) : EReal) := by
  unfold bitS
  show (((BitVec.setWidth 32 (keepS u)).toInt : ℝ) : EReal) = _
  generalize keepS u = k
  have h : ∀ k : BitVec 1, (BitVec.setWidth 32 k).toInt = (k.toNat : ℤ) := by decide
  rw [h]
  norm_cast

/-- The bits of a byte, put together with natural numbers and with words. -/
theorem byte_words : ∀ f : Fin 8 → Fin (2 ^ 1),
    BitVec.setWidth 8 (BitVec.ofNat 32 (∑ b, (BitVec.ofFin (f b)).toNat * 2 ^ b.val))
      = BitVec.setWidth 8 (Finset.univ.fold IntOp.addi (0#32) fun b : Fin 8 =>
          IntOp.shli ArithUnit.host (BitVec.setWidth 32 (BitVec.ofFin (f b))) (BitVec.ofNat 32 b.val))
      ∧ ∑ b, (BitVec.ofFin (f b)).toNat * 2 ^ b.val < 256 := by
  decide +kernel

/-- The dot's value for a byte, as a byte. -/
theorem byte_eq (u : Fin 8 → BitVec 32) :
    BitVec.setWidth 8 (FloatOps.fptosi (F := Ideal) (φ := .f32) 32 (∑ b : Fin 8, bitS (u b) * (((2 ^ b.val : ℕ) : ℝ) : EReal))) = maskS u := by
  obtain ⟨h1, h2⟩ := byte_words fun b => (keepS (u b)).toFin
  unfold maskS
  refine Eq.trans ?_ h1
  have e : (∑ b : Fin 8, bitS (u b) * (((2 ^ b.val : ℕ) : ℝ) : EReal)) = (((∑ b : Fin 8, (keepS (u b)).toNat * 2 ^ b.val : ℕ) : ℝ) : EReal) := by
    simp only [Fin.sum_univ_eight, bitS_eq, ← EReal.coe_mul, ← EReal.coe_add]
    push_cast
    rfl
  rw [e]
  have h2' : ∑ b : Fin 8, (keepS (u b)).toNat * 2 ^ b.val < 256 := h2
  show BitVec.setWidth 8 (FloatOps.fptosi (F := Ideal) (φ := .f32) 32 _) = BitVec.setWidth 8 (BitVec.ofNat 32 (∑ b : Fin 8, (keepS (u b)).toNat * 2 ^ b.val))
  generalize ∑ b : Fin 8, (keepS (u b)).toNat * 2 ^ b.val = N at h2'
  refine congrArg _ ?_
  show BitVec.ofInt 32 (Ideal.toIntClamped _ _ _) = _
  rw [Ideal.toIntClamped_coe, if_pos (by positivity)]
  have : ⌊((N : ℕ) : ℝ)⌋ = (N : ℤ) := Int.floor_natCast _
  rw [this, min_eq_right (by norm_num; omega), max_eq_right (by norm_num)]
  exact BitVec.ofInt_natCast _ _

/-- A dot with the weights over `J` bytes is the byte's eight terms. -/
theorem dot_byte {J : ℕ} (f : Fin (J * 8) → EReal) (n : Fin J) :
    (∑ x : Fin (J * 8), f x * wS x.val n.val) = ∑ b : Fin 8, f ⟨n.val * 8 + b.val, by have := n.isLt; omega⟩ * (((2 ^ b.val : ℕ) : ℝ) : EReal) := by
  rw [Fin.sum_univ_tiles J 8 rfl (fun x => f x * wS x.val n.val), Finset.sum_eq_single n]
  · refine Finset.sum_congr rfl fun b _ => ?_
    unfold wS
    simp only [show (n.val * 8 + b.val) / 8 = n.val from by omega, show (n.val * 8 + b.val) % 8 = b.val from by omega, if_true]
  · intro j _ hj
    refine Finset.sum_eq_zero fun b _ => ?_
    unfold wS
    have : j.val ≠ n.val := fun h => hj (Fin.ext h)
    rw [if_neg (by show ¬ (j.val * 8 + b.val) / 8 = n.val; omega), mul_zero]
  · intro h
    exact absurd (Finset.mem_univ _) h

/-- A byte of a chunk's mask. -/
theorem mask_at (x4 : Vec Ideal S128x3584 .i32) (x6 : Vec Ideal S2048x256 .bf16) (hw : ∀ (x : Fin 2048) (n : Fin 256), x6 (ix2 x n) = wS x.val n.val)
    (y : S128x448.Idx) :
    mBlk (F := Ideal) x4 x6 y = maskS fun b => x4 (ix2 (y 0) ⟨(y 1).val * 8 + b.val, by
      have : (y 1).val < 448 := (y 1).isLt
      have := b.isLt
      omega⟩) := by
  have hy : (y 0).val < 128 := (y 0).isLt
  have hy1 : (y 1).val < 448 := (y 1).isLt
  have hb : ∀ (r : Fin 2) (z : S64x3584.Idx) (k : S128x3584.Idx), (k 0).val = 64 * r.val + (z 0).val → (k 1).val = (z 1).val →
      glueB (bT (F := Ideal) x4 r) z = bitS (x4 k) := by
    intro r z k h0 h1
    have hz1 : (z 1).val < 3584 := (z 1).isLt
    unfold glueB bT
    refine (pay29_at _ (z 0) ⟨(z 1).val % 128, Nat.mod_lt _ (by decide)⟩).trans ?_
    refine congrArg (fun i => bitS (x4 i)) (funext fun a => Fin.ext ?_)
    fin_cases a
    · show 64 * r.val + 1 * (z 0).val = (k 0).val; omega
    · show 128 * ((z 1).val / 128) + 1 * ((z 1).val % 128) = (k 1).val; omega
  have hp : ∀ r : Fin 2, (y 0).val / 64 = r.val → (if h : (y 1).val < 256 then (chunkMask (F := Ideal) x4 x6 r).1 (ix2 ⟨(y 0).val % 64, Nat.mod_lt _ (by decide)⟩ ⟨(y 1).val, h⟩)
      else (chunkMask (F := Ideal) x4 x6 r).2 (ix2 ⟨(y 0).val % 64, Nat.mod_lt _ (by decide)⟩ ⟨(y 1).val - 256, by omega⟩))
      = maskS fun b => x4 (ix2 (y 0) ⟨(y 1).val * 8 + b.val, by have := b.isLt; omega⟩) := by
    intro r hr
    unfold chunkMask maskParts
    by_cases h : (y 1).val < 256
    · rw [dif_pos h]
      dsimp only
      rw [pay260_at, ← byte_eq]
      refine congrArg (fun s => BitVec.setWidth 8 (FloatOps.fptosi (F := Ideal) (φ := .f32) 32 s)) ?_
      refine Eq.trans (Finset.sum_congr rfl fun x _ => ?_) ((dot_byte (J := 256)
        (fun x => bitS (x4 (ix2 (y 0) ⟨x.val, by have := x.isLt; omega⟩))) ⟨(y 1).val, h⟩).trans rfl)
      refine congrArg₂ (· * ·) (hb r _ _ ?_ ?_) ((congrArg x6 (funext fun a => Fin.ext ?_)).trans (hw x ⟨(y 1).val, h⟩))
      · show (y 0).val = 64 * r.val + (0 + 1 * ((y 0).val % 64)); omega
      · show x.val = 0 + 1 * x.val; omega
      · fin_cases a
        · show 0 + 1 * x.val = x.val; omega
        · show 0 + 1 * (y 1).val = (y 1).val; omega
    · rw [dif_neg h]
      dsimp only
      rw [pay261_at, ← byte_eq]
      refine congrArg (fun s => BitVec.setWidth 8 (FloatOps.fptosi (F := Ideal) (φ := .f32) 32 s)) ?_
      refine Eq.trans (Finset.sum_congr rfl fun x _ => ?_) ((dot_byte (J := 192)
        (fun x => bitS (x4 (ix2 (y 0) ⟨2048 + x.val, by have := x.isLt; omega⟩))) ⟨(y 1).val - 256, by omega⟩).trans
          (Finset.sum_congr rfl fun b _ => congrArg₂ (· * ·) (congrArg (fun i => bitS (x4 i)) (funext fun a => Fin.ext ?_)) rfl))
      · refine congrArg₂ (· * ·) (hb r _ _ ?_ ?_) ((congrArg x6 (funext fun a => Fin.ext ?_)).trans
          (hw ⟨x.val, by have := x.isLt; omega⟩ ⟨(y 1).val - 256, by omega⟩))
        · show (y 0).val = 64 * r.val + (0 + 1 * ((y 0).val % 64)); omega
        · show 2048 + x.val = 2048 + 1 * x.val; omega
        · fin_cases a
          · show 0 + 1 * x.val = x.val; omega
          · show 0 + 1 * ((y 1).val - 256) = (y 1).val - 256; omega
      · fin_cases a
        · rfl
        · show 2048 + (((y 1).val - 256) * 8 + b.val) = (y 1).val * 8 + b.val; omega
  show glueM (chunkMask (F := Ideal) x4 x6 0) (chunkMask (F := Ideal) x4 x6 1) y = _
  unfold glueM
  by_cases h0 : (y 0).val < 64
  · simp only [if_pos h0]; exact hp 0 (by show _ = 0; omega)
  · simp only [if_neg h0]; exact hp 1 (by show _ = 1; omega)

end Cert.KernelIdeal.Rolled
end
-- ==== Proof.Results.lean ====
/-
  The five results as arrays over the arguments.
-/
module

public import proofs.«01_k».proof.Proof.Spec

@[expose] public section

noncomputable section

namespace Cert.Values

open Idealize.ShloMosaic

/-- An array of 6 by 256 rows. -/
abbrev Rows3 (α : Type) := (⟨3, ![6, 256, 3584]⟩ : Shape).Idx → α

/-- A vector of a row's length. -/
abbrev Vec1 := (⟨1, ![3584]⟩ : Shape).Idx → EReal

variable (x a : Rows3 EReal) (b : Vec1) (u : Rows3 (BitVec 32)) (g : Vec1)

/-- An element of a row. -/
def at3 {α : Type} (x : Rows3 α) (R : Fin 1536) (k : Fin 3584) : α := x (ix3 ⟨R.val / 256, by omega⟩ ⟨R.val % 256, by omega⟩ k)

/-- The residual sums of a row. -/
def hRow (R : Fin 1536) : Row := fun k => hS (at3 x R k) (at3 a R k) (b (ix1 k)) (at3 u R k)

/-- The normalised row. -/
def yRow (R : Fin 1536) : Row := yS (hRow x a b u R) fun k => g (ix1 k)

/-- The scale of a row. -/
def scaleRow (R : Fin 1536) : EReal := scaleS (vS (yRow x a b u g R))

/-- The residual sums. -/
def hG : (⟨2, ![1536, 3584]⟩ : Shape).Idx → EReal := fun y => hRow x a b u (y 0) (y 1)

/-- The row of the flat order. -/
def row2 (y : (⟨2, ![6, 256]⟩ : Shape).Idx) : Fin 1536 := ⟨256 * (y 0).val + (y 1).val, by
  have h0 : (y 0).val < 6 := (y 0).isLt
  have h1 : (y 1).val < 256 := (y 1).isLt
  omega⟩

/-- The reciprocal root mean squares. -/
def rstdG : (⟨2, ![6, 256]⟩ : Shape).Idx → EReal := fun y => rsS (hRow x a b u (row2 y))

/-- The scales. -/
def scaleG : (⟨2, ![6, 256]⟩ : Shape).Idx → EReal := fun y => scaleRow x a b u g (row2 y)

/-- The codes. -/
def codesG : (⟨2, ![1536, 3584]⟩ : Shape).Idx → EReal := fun y => codeS (yRow x a b u g (y 0) (y 1)) (Ideal.div 1 (scaleRow x a b u g (y 0)))

/-- The mask. -/
def maskG : (⟨2, ![1536, 448]⟩ : Shape).Idx → BitVec 8 := fun y => maskS fun b => at3 u (y 0) ⟨(y 1).val * 8 + b.val, by
  have h1 : (y 1).val < 448 := (y 1).isLt
  have := b.isLt
  omega⟩

end Cert.Values
end
-- ==== Proof.Arrays.lean ====
/-
  The kernel's result arrays after the run, as arrays over the arguments.
-/
module

public import proofs.«01_k».proof.Proof.Mask
public import proofs.«01_k».proof.Proof.Rows
public import proofs.«01_k».proof.Proof.Scale
public import proofs.«01_k».proof.Proof.Bound
public import proofs.«01_k».proof.Proof.Entry
public import proofs.«01_k».proof.Proof.Weights
public import Idealize.ShloMosaic.Lib.Pipeline.ValueKit
public import proofs.«01_k».proof.Proof.Results

@[expose] public section

set_option maxRecDepth 16384

noncomputable section

namespace Cert.KernelIdeal.Rolled

open Idealize.ShloMosaic Idealize.ShloMosaic.TcCoe Idealize.ShloMosaic.VecWindow Idealize.ShloMosaic.Tactic
open Idealize.SL Idealize.SL.Sem
open Idealize.ShloMosaic.Pipeline (Dat Cfg Window)
open Cert.KernelIdeal.Gen Cert.Values Cert.KernelIdeal.Entry

variable (m : (ℓ : Loc nD τ sig) → Buf (Elt Ideal) ℓ) (c : Dev nD)

/-- The row of the whole array that a point's row is. -/
def rowAt (t : Fin cfg0.N) (r : Fin 128) : Fin 1536 := ⟨t.val * 128 + r.val, by have := lt_of_lt_of_eq t.isLt (show cfg0.N = 12 from N_0); omega⟩

abbrev argX : Rows3 EReal := m ((c : Thread nD τ).loc main_arg0)
abbrev argA : Rows3 EReal := m ((c : Thread nD τ).loc main_arg1)
abbrev argB : Vec1 := m ((c : Thread nD τ).loc main_arg2)
abbrev argU : Rows3 (BitVec 32) := m ((c : Thread nD τ).loc main_arg3)
abbrev argG : Vec1 := m ((c : Thread nD τ).loc main_arg4)

theorem cast3 {α : Type} (x : S6x256x3584.Idx → α) (R : Fin 1536) (k : Fin 3584) :
    shapeCast S1536x3584 x shapeCasts_S6x256x3584_S1536x3584 (ix2 R k) = at3 x R k := by
  pointwise
  rfl

theorem cast1 (x : S3584.Idx → EReal) (k : Fin 3584) : shapeCast S1x3584 x shapeCasts_S3584_S1x3584 (ix2 0 k) = x (ix1 k) := by
  pointwise

theorem index0 : ∀ t : Fin cfg0.N, win0_0.index t = ![t.val, 0] := by decide +kernel
theorem index1 : ∀ t : Fin cfg0.N, win0_1.index t = ![t.val, 0] := by decide +kernel
theorem index2 : ∀ t : Fin cfg0.N, win0_2.index t = ![0, 0] := by decide +kernel
theorem index3 : ∀ t : Fin cfg0.N, win0_3.index t = ![t.val, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index8 : ∀ t : Fin cfg0.N, win0_8.index t = ![t.val, 0] := by decide +kernel
theorem index10 : ∀ t : Fin cfg0.N, win0_10.index t = ![t.val, 0] := by decide +kernel

theorem emb0 (t : Fin cfg0.N) (r : Fin 128) (k : Fin 3584) : (win0_0.blk t).view.emb (ix2 r k) = ix2 (rowAt t r) k := by
  blk_ext [index0 t, rowAt]
theorem emb1 (t : Fin cfg0.N) (r : Fin 128) (k : Fin 3584) : (win0_1.blk t).view.emb (ix2 r k) = ix2 (rowAt t r) k := by
  blk_ext [index1 t, rowAt]
theorem emb2 (t : Fin cfg0.N) (k : Fin 3584) : (win0_2.blk t).view.emb (ix2 0 k) = ix2 0 k := by
  blk_ext [index2 t]
theorem emb3 (t : Fin cfg0.N) (r : Fin 128) (k : Fin 3584) : (win0_3.blk t).view.emb (ix2 r k) = ix2 (rowAt t r) k := by
  blk_ext [index3 t, rowAt]
theorem emb4 (t : Fin cfg0.N) (k : Fin 3584) : (win0_4.blk t).view.emb (ix2 0 k) = ix2 0 k := by
  blk_ext [index4 t]
theorem emb5 (t : Fin cfg0.N) (x : Fin 2048) (n : Fin 256) : (win0_5.blk t).view.emb (ix2 x n) = ix2 x n := by
  blk_ext [index5 t]
theorem emb6 (t : Fin cfg0.N) (y : S128x3584.Idx) : (win0_6.blk t).view.emb y = ix2 (rowAt t (y 0)) (y 1) := by
  blk_ext [index6 t, rowAt]
theorem emb8 (t : Fin cfg0.N) (y : S128x448.Idx) : (win0_8.blk t).view.emb y = ix2 (rowAt t (y 0)) (y 1) := by
  blk_ext [index8 t, rowAt]
theorem emb10 (t : Fin cfg0.N) (y : S128x3584.Idx) : (win0_10.blk t).view.emb y = ix2 (rowAt t (y 0)) (y 1) := by
  blk_ext [index10 t, rowAt]

theorem iblk0_at (t : Fin cfg0.N) (r : Fin 128) (k : Fin 3584) : iblk m c 0 t (ix2 r k : S128x3584.Idx) = at3 (argX m c) (rowAt t r) k := by
  refine Eq.trans ?_ (cast3 (argX m c) (rowAt t r) k)
  rw [← V_x m c]
  blk_simp [iblk]
  rw [emb0]

theorem iblk1_at (t : Fin cfg0.N) (r : Fin 128) (k : Fin 3584) : iblk m c 1 t (ix2 r k : S128x3584.Idx) = at3 (argA m c) (rowAt t r) k := by
  refine Eq.trans ?_ (cast3 (argA m c) (rowAt t r) k)
  rw [← V_a m c]
  blk_simp [iblk]
  rw [emb1]

theorem iblk2_at (t : Fin cfg0.N) (k : Fin 3584) : iblk m c 2 t (ix2 0 k : S1x3584.Idx) = argB m c (ix1 k) := by
  refine Eq.trans ?_ (cast1 (argB m c) k)
  rw [← V_b m c]
  blk_simp [iblk]
  rw [emb2]

theorem iblk3_at (t : Fin cfg0.N) (r : Fin 128) (k : Fin 3584) : iblk m c 3 t (ix2 r k : S128x3584.Idx) = at3 (argU m c) (rowAt t r) k := by
  refine Eq.trans ?_ (cast3 (argU m c) (rowAt t r) k)
  rw [← V_u m c]
  blk_simp [iblk]
  rw [emb3]

theorem iblk4_at (t : Fin cfg0.N) (k : Fin 3584) : iblk m c 4 t (ix2 0 k : S1x3584.Idx) = argG m c (ix1 k) := by
  refine Eq.trans ?_ (cast1 (argG m c) k)
  rw [← V_g m c]
  blk_simp [iblk]
  rw [emb4]

theorem iblk5_at (t : Fin cfg0.N) (x : Fin 2048) (n : Fin 256) : iblk m c 5 t (ix2 x n : S2048x256.Idx) = wS x.val n.val := by
  refine Eq.trans ?_ (packT_at x n)
  rw [← V_pack m c]
  blk_simp [iblk]
  rw [emb5]

/-- The row of a point's block that a chunk's row is. -/
def chunkRow (q : Fin 2) (r : Fin 64) : Fin 128 := ⟨64 * q.val + r.val, by omega⟩

theorem tileA_ix {α : Type} (q : Fin 2) (X : S128x3584.Idx → α) (r : Fin 64) (k : Fin 3584) :
    tileA q X (k.val / 128) (by omega) (ix2 r ⟨k.val % 128, Nat.mod_lt _ (by decide)⟩) = X (ix2 (chunkRow q r) k) := by
  refine congrArg X (funext fun a => Fin.ext ?_)
  fin_cases a
  · show 64 * q.val + 1 * r.val = 64 * q.val + r.val; omega
  · show 128 * (k.val / 128) + 1 * (k.val % 128) = k.val; omega

/-- A row of a chunk's residual sums. -/
theorem hAt_row (t : Fin cfg0.N) (q : Fin 2) (r : Fin 64) :
    rowT (hAt m c t q) r = hRow (argX m c) (argA m c) (argB m c) (argU m c) (rowAt t (chunkRow q r)) := by
  funext k
  unfold rowT hAt hT hRow
  rw [pay28_at, tileA_ix, tileA_ix, tileA_ix]
  rw [iblk0_at, iblk1_at, iblk3_at]
  congr 1
  refine Eq.trans ?_ (iblk2_at m c t k)
  refine congrArg (iblk m c 2 t) (funext fun a => Fin.ext ?_)
  fin_cases a
  · rfl
  · show 128 * (k.val / 128) + 1 * (k.val % 128) = k.val; omega

theorem glueA_at {α : Type} (T : Fin 2 → Tiles α) (y : S128x3584.Idx) (q : Fin 2) (hq : (y 0).val / 64 = q.val) :
    glueA (T 0) (T 1) y = T q ((y 1).val / 128) (by have : (y 1).val < 3584 := (y 1).isLt; omega)
      (ix2 ⟨(y 0).val % 64, Nat.mod_lt _ (by decide)⟩ ⟨(y 1).val % 128, Nat.mod_lt _ (by decide)⟩) := by
  unfold glueA
  by_cases h : (y 0).val < 64
  · rw [if_pos h]
    obtain rfl : q = 0 := Fin.ext (by rw [← hq]; show _ = 0; omega)
    rfl
  · rw [if_neg h]
    have h0 : (y 0).val < 128 := (y 0).isLt
    obtain rfl : q = 1 := Fin.ext (by rw [← hq]; show _ = 1; omega)
    rfl

/-- A block glued of two chunks' tiles, row by row. -/
theorem glueA_row (T : Fin 2 → Tiles EReal) (f : Fin 128 → Row) (hT : ∀ q r, rowT (T q) r = f (chunkRow q r)) (y : S128x3584.Idx) :
    glueA (T 0) (T 1) y = f (y 0) (y 1) := by
  have h0 : (y 0).val < 128 := (y 0).isLt
  rw [glueA_at T y ⟨(y 0).val / 64, by omega⟩ rfl]
  have e := congrFun (hT ⟨(y 0).val / 64, by omega⟩ ⟨(y 0).val % 64, by omega⟩) (y 1)
  refine e.trans ?_
  refine congrArg (fun R => f R (y 1)) (Fin.ext ?_)
  show 64 * ((y 0).val / 64) + (y 0).val % 64 = (y 0).val
  omega

theorem arr_h : (dats (F := Ideal) m 0 c).arrAt 10 (cfgs 0).N = hG (argX m c) (argA m c) (argB m c) (argU m c) := by
  refine (dats (F := Ideal) m 0 c).arrAt_eq_of_covers 10 _ (by decide +kernel) fun t hf y => ?_
  blk_simp
  rw [after0_10]
  refine Eq.trans ?_ (congrArg (hG (argX m c) (argA m c) (argB m c) (argU m c)) (emb10 t y)).symm
  exact glueA_row (fun q => hAt m c t q) (fun r => hRow (argX m c) (argA m c) (argB m c) (argU m c) (rowAt t r)) (hAt_row m c t) y

theorem arr_mask : (dats (F := Ideal) m 0 c).arrAt 8 (cfgs 0).N = maskG (argU m c) := by
  refine (dats (F := Ideal) m 0 c).arrAt_eq_of_covers 8 _ (by decide +kernel) fun t hf y => ?_
  blk_simp
  rw [after0_8]
  refine Eq.trans ?_ (congrArg (maskG (argU m c)) (emb8 t y)).symm
  refine (mask_at (iblk m c 3 t) (iblk m c 5 t) (iblk5_at m c t) y).trans ?_
  exact congrArg maskS (funext fun b => iblk3_at m c t (y 0) _)

/-- The scaled row of a point's row. -/
theorem yAt_row (t : Fin cfg0.N) (q : Fin 2) (r : Fin 64) :
    yS (rowT (hAt m c t q) r) (fun k => iblk m c 4 t (ix2 0 k : S1x3584.Idx))
      = yRow (argX m c) (argA m c) (argB m c) (argU m c) (argG m c) (rowAt t (chunkRow q r)) := by
  rw [hAt_row]
  exact congrArg (yS _) (funext fun k => iblk4_at m c t k)

section

variable (hg : ∀ k : Fin 3584, F32Val (argG m c (ix1 k)))
include hg

theorem scale_row (R : Fin 1536) :
    kscale (vS (yRow (argX m c) (argA m c) (argB m c) (argU m c) (argG m c) R)) = scaleRow (argX m c) (argA m c) (argB m c) (argU m c) (argG m c) R
    ∧ kinv (vS (yRow (argX m c) (argA m c) (argB m c) (argU m c) (argG m c) R))
      = Ideal.div 1 (scaleRow (argX m c) (argA m c) (argB m c) (argU m c) (argG m c) R) := by
  have h := v_range (hRow (argX m c) (argA m c) (argB m c) (argU m c) R) (fun k => argG m c (ix1 k)) hg
  exact scale_eq h.1 h.2

theorem arr_codes : (dats (F := Ideal) m 0 c).arrAt 6 (cfgs 0).N = codesG (argX m c) (argA m c) (argB m c) (argU m c) (argG m c) := by
  refine (dats (F := Ideal) m 0 c).arrAt_eq_of_covers 6 _ (by decide +kernel) fun t hf y => ?_
  blk_simp
  rw [after0_6]
  refine Eq.trans ?_ (congrArg (codesG (argX m c) (argA m c) (argB m c) (argU m c) (argG m c)) (emb6 t y)).symm
  refine glueA_row (fun q => chunkCodes (iblk m c 4 t) (hAt m c t q))
    (fun r k => codeS (yRow (argX m c) (argA m c) (argB m c) (argU m c) (argG m c) (rowAt t r) k)
      (Ideal.div 1 (scaleRow (argX m c) (argA m c) (argB m c) (argU m c) (argG m c) (rowAt t r)))) (fun q r => funext fun k => ?_) y
  refine (codes_at (iblk m c 4 t) (hAt m c t q) r k).trans ?_
  rw [yAt_row, (scale_row m c hg _).2]

end

end Cert.KernelIdeal.Rolled
end
-- ==== Proof.Stats.lean ====
/-
  The two arrays that the kernel's last grid point writes: the reciprocal root mean squares and the scales.
-/
module

public import proofs.«01_k».proof.Proof.Arrays

@[expose] public section

set_option maxRecDepth 16384

noncomputable section

namespace Cert.KernelIdeal.Rolled

open Idealize.ShloMosaic Idealize.ShloMosaic.TcCoe Idealize.ShloMosaic.VecWindow Idealize.ShloMosaic.Tactic
open Idealize.SL Idealize.SL.Sem
open Idealize.ShloMosaic.Pipeline (Dat Cfg Window)
open Cert.KernelIdeal.Gen Cert.Values Cert.KernelIdeal.Entry

variable (m : (ℓ : Loc nD τ sig) → Buf (Elt Ideal) ℓ) (c : Dev nD)

theorem index7 : ∀ t : Fin cfg0.N, win0_7.index t = ![0, 0] := by decide +kernel
theorem index9 : ∀ t : Fin cfg0.N, win0_9.index t = ![0, 0] := by decide +kernel

/-- The grid's last point. -/
def lastPoint : Fin cfg0.N := ⟨11, by rw [show cfg0.N = 12 from N_0]; decide⟩

/-- A lane of a point's row of the statistics, from what the two chunks leave for each of their rows. -/
theorem lanes (f : Fin 128 → EReal) (p0 p1 : FVec Ideal S64x1 .f32) (h0 : ∀ r, p0 (ix2 r 0) = f (chunkRow 0 r)) (h1 : ∀ r, p1 (ix2 r 0) = f (chunkRow 1 r))
    (l : Fin 128) : (if h : l.val < 64 then p0 (ix2 ⟨l.val, h⟩ 0) else p1 (ix2 ⟨l.val - 64, by omega⟩ 0)) = f l := by
  by_cases h : l.val < 64
  · rw [dif_pos h, h0]
    exact congrArg f (Fin.ext (show 64 * 0 + l.val = l.val by omega))
  · rw [dif_neg h, h1]
    exact congrArg f (Fin.ext (show 64 * 1 + (l.val - 64) = l.val by omega))

/-- The reciprocal root mean squares of a point. -/
theorem statAt_rstd (t : Fin cfg0.N) (l : Fin 128) :
    statAt m c t 0 l = rsS (hRow (argX m c) (argA m c) (argB m c) (argU m c) (rowAt t l)) := by
  unfold statAt
  rw [rowVal_at, if_pos rfl]
  refine lanes (fun l => rsS (hRow (argX m c) (argA m c) (argB m c) (argU m c) (rowAt t l))) _ _ (fun r => ?_) (fun r => ?_) l
  · rw [chunkRs_at, hAt_row]
  · rw [chunkRs_at, hAt_row]

theorem rowAt_row2 (y : S6x256.Idx) (h : 2 * (y 0).val + (y 1).val / 128 < cfg0.N) :
    rowAt ⟨2 * (y 0).val + (y 1).val / 128, h⟩ ⟨(y 1).val % 128, Nat.mod_lt _ (by decide)⟩ = row2 y := by
  refine Fin.ext ?_
  show (2 * (y 0).val + (y 1).val / 128) * 128 + (y 1).val % 128 = 256 * (y 0).val + (y 1).val
  omega

theorem arr_rstd : (dats (F := Ideal) m 0 c).arrAt 9 (cfgs 0).N = rstdG (argX m c) (argA m c) (argB m c) (argU m c) := by
  refine (dats (F := Ideal) m 0 c).arrAt_eq_of_after_last 9 lastPoint (by decide +kernel) _ fun y => ?_
  blk_simp
  rw [after0_9]
  refine (statAt_rstd m c _ _).trans ?_
  refine congrArg (fun R => rsS (hRow (argX m c) (argA m c) (argB m c) (argU m c) R)) (rowAt_row2 y _)

section

variable (hg : ∀ k : Fin 3584, F32Val (argG m c (ix1 k)))
include hg

/-- The scales of a point. -/
theorem statAt_scale (t : Fin cfg0.N) (l : Fin 128) :
    statAt m c t 1 l = scaleRow (argX m c) (argA m c) (argB m c) (argU m c) (argG m c) (rowAt t l) := by
  unfold statAt
  rw [rowVal_at, if_neg (by decide)]
  refine lanes (fun l => scaleRow (argX m c) (argA m c) (argB m c) (argU m c) (argG m c) (rowAt t l)) _ _ (fun r => ?_) (fun r => ?_) l
  · rw [scale_at, yAt_row, (scale_row m c hg _).1]
  · rw [scale_at, yAt_row, (scale_row m c hg _).1]

theorem arr_scale : (dats (F := Ideal) m 0 c).arrAt 7 (cfgs 0).N = scaleG (argX m c) (argA m c) (argB m c) (argU m c) (argG m c) := by
  refine (dats (F := Ideal) m 0 c).arrAt_eq_of_after_last 7 lastPoint (by decide +kernel) _ fun y => ?_
  blk_simp
  rw [after0_7]
  refine (statAt_scale m c hg _ _).trans ?_
  refine congrArg (fun R => scaleRow (argX m c) (argA m c) (argB m c) (argU m c) (argG m c) R) (rowAt_row2 y _)

end

end Cert.KernelIdeal.Rolled
end
-- ==== Proof.Ref.lean ====
/-
  What the reference's host lines hold: each result as a term over the arguments, in the reference's own steps.
-/
module

public import proofs.«01_k».proof.Proof.Gen.ReferenceIdeal.Frame
public import Idealize.ShloMosaic.Lib.Claim
public import Idealize.ShloMosaic.Lib.StableHlo.RunRead

@[expose] public section

set_option maxRecDepth 16384

noncomputable section

namespace Cert.ReferenceIdeal.Values

open Idealize.ShloMosaic Idealize.ShloMosaic.TcCoe Idealize.ShloMosaic.Tactic
open Idealize.SL Idealize.SL.Sem
open Cert.ReferenceIdeal.Gen

variable {F : FTy → Type} [FloatOps F]

/-- Which values the dropout keeps. -/
def keepT (u : Vec F S6x256x3584 .i32) : Vec F S1536x3584 .i1 :=
  cmpi .uge (shapeCast S1536x3584 u shapeCasts_S6x256x3584_S1536x3584) (broadcastInDim S1536x3584 ![] bcast_S_S1536x3584 (constantI S_ 32 429496730#32))

/-- The residual sum. -/
def hT (x a : Vec F S6x256x3584 .bf16) (b : Vec F S3584 .f32) (u : Vec F S6x256x3584 .i32) : Vec F S1536x3584 .bf16 :=
  truncf .bf16 (addf (extf .f32 (shapeCast S1536x3584 x shapeCasts_S6x256x3584_S1536x3584) bitsLt_bf16_f32)
    (select (keepT u)
      (mulf (addf (extf .f32 (shapeCast S1536x3584 a shapeCasts_S6x256x3584_S1536x3584) bitsLt_bf16_f32)
          (broadcastInDim S1536x3584 ![0, 1] bcast_S1x3584_S1536x3584_0_1 (broadcastInDim S1x3584 ![1] bcast_S3584_S1x3584_1 b)))
        (broadcastInDim S1536x3584 ![] bcast_S_S1536x3584 (constant S_ .f32 0x3F8E38E4#32)))
      (broadcastInDim S1536x3584 ![] bcast_S_S1536x3584 (constant S_ .f32 0x00000000#32)))) bitsLt_bf16_f32

/-- The reciprocal root mean squares of the rows. -/
def rstdT (h : Vec F S1536x3584 .bf16) : Vec F S1536 .f32 :=
  Host.rsqrt (addf (Host.divf (Host.reduceAdd (mulf (extf .f32 h bitsLt_bf16_f32) (extf .f32 h bitsLt_bf16_f32)) (constant S_ .f32 0x00000000#32) reducesTo_S1536x3584_S1536_d1 h_S_)
      (broadcastInDim S1536 ![] bcast_S_S1536 (constant S_ .f32 0x45600000#32)))
    (broadcastInDim S1536 ![] bcast_S_S1536 (constant S_ .f32 0x3727C5AC#32)))

/-- The normalised rows. -/
def yT (h : Vec F S1536x3584 .bf16) (g : Vec F S3584 .f32) : Vec F S1536x3584 .f32 :=
  mulf (mulf (extf .f32 h bitsLt_bf16_f32)
      (broadcastInDim S1536x3584 ![0, 1] bcast_S1536x1_S1536x3584_0_1 (broadcastInDim S1536x1 ![0] bcast_S1536_S1536x1_0 (rstdT h))))
    (broadcastInDim S1536x3584 ![0, 1] bcast_S1x3584_S1536x3584_0_1 (broadcastInDim S1x3584 ![1] bcast_S3584_S1x3584_1 g))

/-- The rows' largest magnitudes over the largest code. -/
def vT (y : Vec F S1536x3584 .f32) : Vec F S1536 .f32 :=
  mulf (Host.reduce FloatOps.maximumf (Host.absf y) (constant S_ .f32 0xFF800000#32) reducesTo_S1536x3584_S1536_d1 h_S_)
    (broadcastInDim S1536 ![] bcast_S_S1536 (constant S_ .f32 0x3B124925#32))

/-- The powers of two. -/
def powT : Vec F S254 .f32 :=
  Host.powf (broadcastInDim S254 ![] bcast_S_S254 (constant S_ .f32 0x40000000#32))
    (addf (broadcastInDim S254 ![] bcast_S_S254 (constant S_ .f32 0xC2FC0000#32)) (sitofp .f32 (iotaInDim S254 32 0)))

/-- The least power of two above each. -/
def aboveT (v : Vec F S1536 .f32) : Vec F S1536 .f32 :=
  Host.reduce FloatOps.minimumf
    (select (cmpf .olt (broadcastInDim S1536x254 ![0, 1] bcast_S1536x1_S1536x254_0_1 (broadcastInDim S1536x1 ![0] bcast_S1536_S1536x1_0 v))
        (broadcastInDim S1536x254 ![0, 1] bcast_S1x254_S1536x254_0_1 (broadcastInDim S1x254 ![1] bcast_S254_S1x254_1 powT)))
      (broadcastInDim S1536x254 ![1] bcast_S254_S1536x254_1 powT)
      (broadcastInDim S1536x254 ![] bcast_S_S1536x254 (constant S_ .f32 0x7F800000#32)))
    (constant S_ .f32 0x7F800000#32) reducesTo_S1536x254_S1536_d1 h_S_

/-- The rows' scales. -/
def scaleT (v : Vec F S1536 .f32) : Vec F S1536 .f32 :=
  select (ori (cmpf .olt v (broadcastInDim S1536 ![] bcast_S_S1536 (constant S_ .f32 0x00800000#32)))
      (cmpf .oeq v (broadcastInDim S1536 ![] bcast_S_S1536 (constant S_ .f32 0x7F800000#32))))
    (broadcastInDim S1536 ![] bcast_S_S1536 (constant S_ .f32 0x3F800000#32)) (aboveT v)

/-- The rows over their scales, clipped. -/
def qT (y : Vec F S1536x3584 .f32) (s : Vec F S1536 .f32) : Vec F S1536x3584 .f32 :=
  minimumf (broadcastInDim S1536x3584 ![] bcast_S_S1536x3584 (constant S_ .f32 0x43E00000#32))
    (maximumf (broadcastInDim S1536x3584 ![] bcast_S_S1536x3584 (constant S_ .f32 0xC3E00000#32))
      (mulf y (broadcastInDim S1536x3584 ![0, 1] bcast_S1536x1_S1536x3584_0_1 (broadcastInDim S1536x1 ![0] bcast_S1536_S1536x1_0
        (Host.divf (broadcastInDim S1536 ![] bcast_S_S1536 (constant S_ .f32 0x3F800000#32)) s)))))

/-- The mask's bytes. -/
def maskT (u : Vec F S6x256x3584 .i32) : Vec F S1536x448 .i8 :=
  trunci 8 (Host.reduce IntOp.addi
    (Host.shli (extui 32 (shapeCast S1536x448x8 (keepT u) shapeCasts_S1536x3584_S1536x448x8) natLt_1_32)
      (broadcastInDim S1536x448x8 ![0, 1, 2] bcast_S1x1x8_S1536x448x8_0_1_2 (broadcastInDim S1x1x8 ![2] bcast_S8_S1x1x8_2 (iotaInDim S8 32 0))))
    (constantI S_ 32 0#32) reducesTo_S1536x448x8_S1536x448_d2 h_S_) natLt_8_32

variable (m : (ℓ : Loc nD τ sig) → Buf (Elt F) ℓ) (c : Dev nD)

/-- The residual sum of the run's arguments. -/
def hOf : Vec F S1536x3584 .bf16 :=
  hT (m ((c : Thread nD τ).loc main_arg0)) (m ((c : Thread nD τ).loc main_arg1)) (m ((c : Thread nD τ).loc main_arg2)) (m ((c : Thread nD τ).loc main_arg3))
/-- The normalised rows of the run's arguments. -/
def yOf : Vec F S1536x3584 .f32 := yT (hOf m c) (m ((c : Thread nD τ).loc main_arg4))

theorem V_h : V m c main_v14 = hOf m c := by
  after_reads_simp
  rfl

theorem V_rstd : V m c main_v66 = shapeCast S6x256 (rstdT (hOf m c)) shapeCasts_S1536_S6x256 := by
  after_reads_simp
  rfl

theorem V_mask : V m c main_v64 = maskT (m ((c : Thread nD τ).loc main_arg3)) := by
  after_reads_simp
  rfl

/-- The buffers after the reference's lines up to the comparison with the powers of two. -/
def W : Idealize.ShloMosaic.Valuation τ sig (Elt F) := StableHlo.after (List.flatten [hostOps0, hostOps0_1, hostOps0_2]) (fun b => m (c, b))

theorem V_split (b : Ref sig .tc) : V m c b
    = StableHlo.after (List.flatten [hostOps0_3, hostOps0_4, hostOps0_5, hostOps0_6, hostOps0_7, hostOps0_8]) (W m c) (Proc.devRef .tc b) := by
  unfold W
  exact congrFun (StableHlo.after_append (List.flatten [hostOps0, hostOps0_1, hostOps0_2]) _ _) _

theorem W_y : W m c (Proc.devRef .tc main_v28) = yOf m c := by
  unfold W
  after_reads_simp
  rfl

theorem W_v : W m c (Proc.devRef .tc main_v32) = vT (yOf m c) := by
  unfold W
  after_reads_simp
  rfl

theorem W_pow : W m c (Proc.devRef .tc main_v37) = powT (F := F) := by
  unfold W
  after_reads_simp
  rfl

theorem W_inf : W m c (Proc.devRef .tc main_cst_8) = (constant S_ .f32 0x7F800000#32 : FVec F S_ .f32) := by
  unfold W
  after_reads_simp

theorem W_below : W m c (Proc.devRef .tc main_v42)
    = cmpf .olt (broadcastInDim S1536x254 ![0, 1] bcast_S1536x1_S1536x254_0_1 (broadcastInDim S1536x1 ![0] bcast_S1536_S1536x1_0 (vT (yOf m c))))
        (broadcastInDim S1536x254 ![0, 1] bcast_S1x254_S1536x254_0_1 (broadcastInDim S1x254 ![1] bcast_S254_S1x254_1 (powT (F := F)))) := by
  unfold W
  after_reads_simp
  rfl

/-- A read of the reference's later lines, over what the earlier ones leave. -/
theorem late_scale (X : Idealize.ShloMosaic.Valuation τ sig (Elt F)) (v : Vec F S1536 .f32)
    (h1 : X (Proc.devRef .tc main_v32) = v)
    (h2 : X (Proc.devRef .tc main_v37) = powT (F := F))
    (h3 : X (Proc.devRef .tc main_cst_8) = (constant S_ .f32 0x7F800000#32 : FVec F S_ .f32))
    (h4 : X (Proc.devRef .tc main_v42)
      = cmpf .olt (broadcastInDim S1536x254 ![0, 1] bcast_S1536x1_S1536x254_0_1 (broadcastInDim S1536x1 ![0] bcast_S1536_S1536x1_0 v))
        (broadcastInDim S1536x254 ![0, 1] bcast_S1x254_S1536x254_0_1 (broadcastInDim S1x254 ![1] bcast_S254_S1x254_1 (powT (F := F))))) :
    StableHlo.after (List.flatten [hostOps0_3, hostOps0_4, hostOps0_5]) X (Proc.devRef .tc main_v50) = scaleT v := by
  have e43 : StableHlo.after hostOps0_3 X (Proc.devRef .tc main_v43)
      = select (X (Proc.devRef .tc main_v42)) (broadcastInDim S1536x254 ![1] bcast_S254_S1536x254_1 (X (Proc.devRef .tc main_v37)))
          (broadcastInDim S1536x254 ![] bcast_S_S1536x254 (X (Proc.devRef .tc main_cst_8))) := by
    after_reads_simp
    rfl
  have e44 (Z : Idealize.ShloMosaic.Valuation τ sig (Elt F)) : StableHlo.after hostOps0_4 Z (Proc.devRef .tc main_v44)
      = Host.reduce FloatOps.minimumf (Z (Proc.devRef .tc main_v43)) (constant S_ .f32 0x7F800000#32) reducesTo_S1536x254_S1536_d1 h_S_ := by
    after_reads_simp
  have e49 (Z : Idealize.ShloMosaic.Valuation τ sig (Elt F)) : StableHlo.after hostOps0_4 Z (Proc.devRef .tc main_v49)
      = ori (cmpf .olt (Z (Proc.devRef .tc main_v32)) (broadcastInDim S1536 ![] bcast_S_S1536 (constant S_ .f32 0x00800000#32)))
          (cmpf .oeq (Z (Proc.devRef .tc main_v32)) (broadcastInDim S1536 ![] bcast_S_S1536 (constant S_ .f32 0x7F800000#32))) := by
    after_reads_simp
  have e12 (Z : Idealize.ShloMosaic.Valuation τ sig (Elt F)) : StableHlo.after hostOps0_4 Z (Proc.devRef .tc main_cst_12)
      = (constant S_ .f32 0x3F800000#32 : FVec F S_ .f32) := by
    after_reads_simp
  have e32 : StableHlo.after hostOps0_3 X (Proc.devRef .tc main_v32) = X (Proc.devRef .tc main_v32) := by
    after_reads_simp
  have e50 (Z : Idealize.ShloMosaic.Valuation τ sig (Elt F)) : StableHlo.after hostOps0_5 Z (Proc.devRef .tc main_v50)
      = select (Z (Proc.devRef .tc main_v49)) (broadcastInDim S1536 ![] bcast_S_S1536 (Z (Proc.devRef .tc main_cst_12))) (Z (Proc.devRef .tc main_v44)) := by
    after_reads_simp
    rfl
  have e : StableHlo.after (List.flatten [hostOps0_3, hostOps0_4, hostOps0_5]) X
      = StableHlo.after hostOps0_5 (StableHlo.after hostOps0_4 (StableHlo.after hostOps0_3 X)) := by
    rw [← StableHlo.after_append, ← StableHlo.after_append]
    rfl
  rw [e, e50, e49, e44, e12, e43, e32, h1, h2, h3, h4]
  rfl

theorem late_keep (X : Idealize.ShloMosaic.Valuation τ sig (Elt F)) :
    StableHlo.after (List.flatten [hostOps0_3, hostOps0_4, hostOps0_5]) X (Proc.devRef .tc main_v28) = X (Proc.devRef .tc main_v28) := by
  after_reads_simp

theorem last_scale (X : Idealize.ShloMosaic.Valuation τ sig (Elt F)) (s : Vec F S1536 .f32) (h1 : X (Proc.devRef .tc main_v50) = s) :
    StableHlo.after (List.flatten [hostOps0_6, hostOps0_7, hostOps0_8]) X (Proc.devRef .tc main_v65) = shapeCast S6x256 s shapeCasts_S1536_S6x256 := by
  after_reads_simp
  rw [h1]
  rfl

theorem last_q (X : Idealize.ShloMosaic.Valuation τ sig (Elt F)) (y : Vec F S1536x3584 .f32) (s : Vec F S1536 .f32)
    (h0 : X (Proc.devRef .tc main_v28) = y) (h1 : X (Proc.devRef .tc main_v50) = s) :
    StableHlo.after (List.flatten [hostOps0_6, hostOps0_7, hostOps0_8]) X (Proc.devRef .tc main_v56) = qT y s := by
  obtain ⟨Y, hY⟩ : ∃ Y, Y = qT y s := ⟨_, rfl⟩
  rw [← hY]
  after_reads_simp
  rw [h0, h1, hY]
  rfl

theorem V_split' (b : Ref sig .tc) : V m c b
    = StableHlo.after (List.flatten [hostOps0_6, hostOps0_7, hostOps0_8])
        (StableHlo.after (List.flatten [hostOps0_3, hostOps0_4, hostOps0_5]) (W m c)) (Proc.devRef .tc b) := by
  rw [V_split]
  exact congrFun (StableHlo.after_append (List.flatten [hostOps0_3, hostOps0_4, hostOps0_5]) _ _) _

theorem V_scale : V m c main_v65 = shapeCast S6x256 (scaleT (vT (yOf m c))) shapeCasts_S1536_S6x256 := by
  rw [V_split']
  exact last_scale _ _ (late_scale _ _ (W_v m c) (W_pow m c) (W_inf m c) (W_below m c))

theorem V_q : V m c main_v56 = qT (yOf m c) (scaleT (vT (yOf m c))) := by
  rw [V_split']
  exact last_q _ _ _ ((late_keep _).trans (W_y m c)) (late_scale _ _ (W_v m c) (W_pow m c) (W_inf m c) (W_below m c))

end Cert.ReferenceIdeal.Values
-- ==== Proof.RefAt.lean ====
/-
  The reference's results at an index: the mathematics of `Spec` over the reference's arguments.
-/
module

public import proofs.«01_k».proof.Proof.Ref
public import proofs.«01_k».proof.Proof.Spec

@[expose] public section

set_option maxRecDepth 16384

noncomputable section

namespace Cert.ReferenceIdeal.Values

open Idealize.ShloMosaic Idealize.ShloMosaic.TcCoe Idealize.ShloMosaic.Tactic
open Idealize.SL Idealize.SL.Sem
open Cert.ReferenceIdeal.Gen Cert.Values

theorem hT_at (x a : FVec Ideal S6x256x3584 .bf16) (b : FVec Ideal S3584 .f32) (u : Vec Ideal S6x256x3584 .i32) (R : Fin 1536) (j : Fin 3584) :
    hT (F := Ideal) x a b u (ix2 R j)
      = hS (x (ix3 ⟨R.val / 256, by omega⟩ ⟨R.val % 256, by omega⟩ j)) (a (ix3 ⟨R.val / 256, by omega⟩ ⟨R.val % 256, by omega⟩ j)) (b (ix1 j))
          (u (ix3 ⟨R.val / 256, by omega⟩ ⟨R.val % 256, by omega⟩ j)) := by
  pointwise [hT, keepT]
  rfl

theorem rstdT_at (h : FVec Ideal S1536x3584 .bf16) (R : Fin 1536) : rstdT (F := Ideal) h (ix1 R) = rsS fun k => h (ix2 R k) := by
  pointwise [rstdT]
  rfl

theorem yT_at (h : FVec Ideal S1536x3584 .bf16) (g : FVec Ideal S3584 .f32) (R : Fin 1536) (j : Fin 3584) :
    yT (F := Ideal) h g (ix2 R j) = yS (fun k => h (ix2 R k)) (fun k => g (ix1 k)) j := by
  pointwise [yT]
  rw [rstdT_at]
  rfl

theorem red_at (z : FVec Ideal S1536x3584 .f32) (i : FVec Ideal S_ .f32) (R : Fin 1536) :
    Host.reduce FloatOps.maximumf z i reducesTo_S1536x3584_S1536_d1 h_S_ (ix1 R)
      = Finset.univ.fold max (i (Shape.Idx.first h_S_)) (fun x => z (ix2 R x)) := by
  pointwise

theorem mulf_at {s : Shape} (a b : FVec Ideal s .f32) (j : s.Idx) : mulf a b j = a j * b j := rfl

theorem const_at (w : BitVec 32) (R : Fin 1536) :
    (broadcastInDim S1536 ![] bcast_S_S1536 (constant S_ .f32 w) : FVec Ideal S1536 .f32) (ix1 R) = Ideal.ofBits .f32 w := rfl

theorem absf_at (y : FVec Ideal S1536x3584 .f32) (R : Fin 1536) (k : Fin 3584) :
    (Host.absf y : FVec Ideal S1536x3584 .f32) (ix2 R k) = max (y (ix2 R k)) (-(y (ix2 R k))) := rfl

theorem vT_at (y : FVec Ideal S1536x3584 .f32) (R : Fin 1536) : vT (F := Ideal) y (ix1 R) = vS fun k => y (ix2 R k) := by
  unfold vT vS
  rw [mulf_at, red_at, const_at]
  refine congrArg (· * _) ?_
  refine congrArg₂ (fun i f => Finset.univ.fold max i f) rfl (funext fun k => absf_at y R k)

theorem powT_at (k : Fin 254) : powT (F := Ideal) (ix1 k) = powS k := by
  pointwise [powT]
  rfl

theorem aboveT_at (v : FVec Ideal S1536 .f32) (R : Fin 1536) : aboveT (F := Ideal) v (ix1 R)
    = Finset.univ.fold min (Ideal.ofBits .f32 0x7F800000#32) (fun k => if v (ix1 R) < powS k then powS k else Ideal.ofBits .f32 0x7F800000#32) := by
  have h := powT_at
  unfold aboveT
  generalize powT (F := Ideal) = p at *
  pointwise
  simp only [h]

theorem scaleT_at (v : FVec Ideal S1536 .f32) (R : Fin 1536) : scaleT (F := Ideal) v (ix1 R) = scaleS (v (ix1 R)) := by
  pointwise [scaleT]
  rw [aboveT_at]
  unfold scaleS
  generalize v (ix1 R) = x
  by_cases h1 : x < Ideal.ofBits .f32 0x00800000#32 <;> by_cases h2 : x = Ideal.ofBits .f32 0x7F800000#32 <;>
    simp only [h1, h2, decide_true, decide_false, or_true, true_or, or_self, if_true, if_false] <;> rfl

theorem qT_at (y : FVec Ideal S1536x3584 .f32) (s : FVec Ideal S1536 .f32) (R : Fin 1536) (j : Fin 3584) :
    qT (F := Ideal) y s (ix2 R j) = codeS (y (ix2 R j)) (Ideal.div 1 (s (ix1 R))) := by
  pointwise [qT]
  rfl

theorem maskT_at (u : Vec Ideal S6x256x3584 .i32) (R : Fin 1536) (n : Fin 448) : maskT (F := Ideal) u (ix2 R n)
    = maskS fun b => u (ix3 ⟨R.val / 256, by omega⟩ ⟨R.val % 256, by omega⟩ ⟨n.val * 8 + b.val, by omega⟩) := by
  pointwise [maskT, keepT]
  rfl

end Cert.ReferenceIdeal.Values
-- ==== Proof.RefArrays.lean ====
/-
  The reference's result arrays, as arrays over the arguments.
-/
module

public import proofs.«01_k».proof.Proof.RefAt
public import proofs.«01_k».proof.Proof.Results
public import Idealize.ShloMosaic.Lib.Pipeline.ValueKit

@[expose] public section

set_option maxRecDepth 16384

noncomputable section

namespace Cert.ReferenceIdeal.Values

open Idealize.ShloMosaic Idealize.ShloMosaic.TcCoe Idealize.ShloMosaic.Tactic
open Idealize.SL Idealize.SL.Sem
open Idealize.ShloMosaic.Pipeline (Dat Cfg Window)
open Cert.ReferenceIdeal.Gen Cert.Values

variable (m : (ℓ : Loc nD τ sig) → Buf (Elt Ideal) ℓ) (c : Dev nD)

abbrev argX : Rows3 EReal := m ((c : Thread nD τ).loc main_arg0)
abbrev argA : Rows3 EReal := m ((c : Thread nD τ).loc main_arg1)
abbrev argB : Vec1 := m ((c : Thread nD τ).loc main_arg2)
abbrev argU : Rows3 (BitVec 32) := m ((c : Thread nD τ).loc main_arg3)
abbrev argG : Vec1 := m ((c : Thread nD τ).loc main_arg4)

/-- The reference's residual sums. -/
theorem hOf_row (R : Fin 1536) : (fun k => hOf (F := Ideal) m c (ix2 R k)) = hRow (argX m c) (argA m c) (argB m c) (argU m c) R :=
  funext fun k => hT_at _ _ _ _ R k

/-- The reference's scaled rows. -/
theorem yOf_row (R : Fin 1536) : (fun k => yOf (F := Ideal) m c (ix2 R k)) = yRow (argX m c) (argA m c) (argB m c) (argU m c) (argG m c) R := by
  funext k
  unfold yOf
  rw [yT_at, hOf_row]
  rfl

/-- The reference's scales. -/
theorem scaleOf_row (R : Fin 1536) : scaleT (vT (yOf (F := Ideal) m c)) (ix1 R) = scaleRow (argX m c) (argA m c) (argB m c) (argU m c) (argG m c) R := by
  rw [scaleT_at, vT_at, yOf_row]
  rfl

theorem ref_h : V (F := Ideal) m c main_v14 = hG (argX m c) (argA m c) (argB m c) (argU m c) := by
  rw [V_h]
  funext y
  obtain ⟨R, k, rfl⟩ : ∃ R k, y = ix2 R k := ⟨y 0, y 1, eq_ix2 y⟩
  exact congrFun (hOf_row m c R) k

theorem cast2 (x : FVec Ideal S1536 .f32) (y : S6x256.Idx) : shapeCast S6x256 x shapeCasts_S1536_S6x256 y = x (ix1 (row2 y)) := by
  obtain ⟨i, j, rfl⟩ : ∃ i j, y = ix2 i j := ⟨y 0, y 1, eq_ix2 y⟩
  pointwise
  blk_ext [row2]

theorem ref_rstd : V (F := Ideal) m c main_v66 = rstdG (argX m c) (argA m c) (argB m c) (argU m c) := by
  rw [V_rstd]
  funext y
  rw [cast2, rstdT_at, hOf_row]
  rfl

theorem ref_scale : V (F := Ideal) m c main_v65 = scaleG (argX m c) (argA m c) (argB m c) (argU m c) (argG m c) := by
  rw [V_scale]
  funext y
  rw [cast2, scaleOf_row]
  rfl

theorem ref_mask : V (F := Ideal) m c main_v64 = maskG (argU m c) := by
  rw [V_mask]
  funext y
  obtain ⟨R, n, rfl⟩ : ∃ R n, y = ix2 R n := ⟨y 0, y 1, eq_ix2 y⟩
  exact maskT_at _ R n

theorem q_at (R : Fin 1536) (k : Fin 3584) : V (F := Ideal) m c main_v56 (ix2 R k)
    = codeS (yRow (argX m c) (argA m c) (argB m c) (argU m c) (argG m c) R k) (Ideal.div 1 (scaleRow (argX m c) (argA m c) (argB m c) (argU m c) (argG m c) R)) := by
  rw [V_q, qT_at, scaleOf_row]
  rw [← yOf_row]

theorem pay1_at (q : FVec Ideal S1536x3584 .f32) (R : Fin 1536) (k : Fin 3584) : (k0_pay1 (F := Ideal) q : S1536x3584.Idx → EReal) (ix2 R k) = q (ix2 R k) := by
  pointwise [k0_pay1]

theorem index0 : ∀ t : Fin cfg0.N, win0_0.index t = ![0, 0] := by decide +kernel
theorem index1 : ∀ t : Fin cfg0.N, win0_1.index t = ![0, 0] := by decide +kernel

theorem emb0 (t : Fin cfg0.N) (R : Fin 1536) (k : Fin 3584) : (win0_0.blk t).view.emb (ix2 R k) = ix2 R k := by blk_ext [index0 t]
theorem emb1 (t : Fin cfg0.N) (y : S1536x3584.Idx) : (win0_1.blk t).view.emb y = y := by blk_ext [index1 t]

theorem iblk0_at (t : Fin cfg0.N) (R : Fin 1536) (k : Fin 3584) : iblk (F := Ideal) m c 0 t (ix2 R k : S1536x3584.Idx) = V (F := Ideal) m c main_v56 (ix2 R k) := by
  refine (congrArg (V (F := Ideal) m c main_v56) (emb0 t R k) : _)

theorem ref_codes : (Gen.dats (F := Ideal) m 0 c).arrAt 1 cfg0.N = codesG (argX m c) (argA m c) (argB m c) (argU m c) (argG m c) := by
  refine (Gen.dats (F := Ideal) m 0 c).arrAt_eq_of_covers 1 _ (by decide +kernel) fun t hf y => ?_
  blk_simp
  rw [after0_1]
  refine Eq.trans ?_ (congrArg (codesG (argX m c) (argA m c) (argB m c) (argU m c) (argG m c)) (emb1 t y)).symm
  frame_out
  obtain ⟨R, k, rfl⟩ : ∃ R k, (y : S1536x3584.Idx) = ix2 R k := ⟨y 0, y 1, eq_ix2 y⟩
  exact (pay1_at _ R k).trans ((iblk0_at m c t R k).trans (q_at m c R k))

end Cert.ReferenceIdeal.Values
end
-- ==== Proof.Runs.lean ====
/-
  What the two programs leave in their result buffers.
-/
module

public import proofs.«01_k».proof.Proof.Stats
public import proofs.«01_k».proof.Proof.RefArrays

@[expose] public section

set_option maxRecDepth 16384

noncomputable section

namespace Cert.KernelIdeal.Rolled

open Idealize.ShloMosaic Idealize.ShloMosaic.TcCoe
open Idealize.SL Idealize.SL.Sem
open Cert.KernelIdeal.Gen Cert.Values

variable (m : (ℓ : Loc nD τ sig) → Buf (Elt Ideal) ℓ) (ρ : Dev nD → PrngReg)
  (hg : ∀ (c : Dev nD) (k : Fin 3584), F32Val (argG m c (ix1 k)))
include hg

/-- The kernel's five results. -/
theorem run_values : θ_run defs (onTc (τ := τ) (main (F := Ideal))) ⟨m, fun _ => 0, ρ⟩ (fun r => ∀ c : Dev nD,
      r.2.mem ((c.tc : Thread nD τ).loc main_v14_0) = codesG (argX m c) (argA m c) (argB m c) (argU m c) (argG m c)
      ∧ r.2.mem ((c.tc : Thread nD τ).loc main_v14_1) = scaleG (argX m c) (argA m c) (argB m c) (argU m c) (argG m c)
      ∧ r.2.mem ((c.tc : Thread nD τ).loc main_v14_2) = maskG (argU m c)
      ∧ r.2.mem ((c.tc : Thread nD τ).loc main_v14_3) = rstdG (argX m c) (argA m c) (argB m c) (argU m c)
      ∧ r.2.mem ((c.tc : Thread nD τ).loc main_v14_4) = hG (argX m c) (argA m c) (argB m c) (argU m c)) :=
  (θ_run defs _ _).mono (fun _ h c => ⟨((h c).1 6).trans (arr_codes m c (hg c)), ((h c).1 7).trans (arr_scale m c (hg c)),
    ((h c).1 8).trans (arr_mask m c), ((h c).1 9).trans (arr_rstd m c), ((h c).1 10).trans (arr_h m c)⟩) (run_main m ρ)

end Cert.KernelIdeal.Rolled

namespace Cert.ReferenceIdeal.Values

open Idealize.ShloMosaic Idealize.ShloMosaic.TcCoe
open Idealize.SL Idealize.SL.Sem
open Cert.ReferenceIdeal.Gen Cert.Values

variable (m : (ℓ : Loc nD τ sig) → Buf (Elt Ideal) ℓ) (ρ : Dev nD → PrngReg)

/-- The reference's five results. -/
theorem run_values : θ_run defs (onTc (τ := τ) (main (F := Ideal))) ⟨m, fun _ => 0, ρ⟩ (fun r => ∀ c : Dev nD,
      r.2.mem ((c.tc : Thread nD τ).loc main_v67) = codesG (argX m c) (argA m c) (argB m c) (argU m c) (argG m c)
      ∧ r.2.mem ((c.tc : Thread nD τ).loc main_v65) = scaleG (argX m c) (argA m c) (argB m c) (argU m c) (argG m c)
      ∧ r.2.mem ((c.tc : Thread nD τ).loc main_v64) = maskG (argU m c)
      ∧ r.2.mem ((c.tc : Thread nD τ).loc main_v66) = rstdG (argX m c) (argA m c) (argB m c) (argU m c)
      ∧ r.2.mem ((c.tc : Thread nD τ).loc main_v14) = hG (argX m c) (argA m c) (argB m c) (argU m c)) :=
  (θ_run defs _ _).mono (fun _ h c => ⟨((h c).1 1).trans (ref_codes m c),
    ((h c).2 main_v65 (Pipeline.mem_restRefs_of main_v65 (by decide) (by decide))).trans (ref_scale m c),
    ((h c).2 main_v64 (Pipeline.mem_restRefs_of main_v64 (by decide) (by decide))).trans (ref_mask m c),
    ((h c).2 main_v66 (Pipeline.mem_restRefs_of main_v66 (by decide) (by decide))).trans (ref_rstd m c),
    ((h c).2 main_v14 (Pipeline.mem_restRefs_of main_v14 (by decide) (by decide))).trans (ref_h m c)⟩) (run_main m ρ)

end Cert.ReferenceIdeal.Values
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_gamma_in_f32
public import proofs.«01_k».proof.Proof.KernelFrame
public import proofs.«01_k».proof.Proof.Gamma
public import proofs.«01_k».proof.Proof.Runs
public import Idealize.ShloMosaic.Adequacy
public import Idealize.ShloMosaic.Init

@[expose] public section

noncomputable section

namespace Cert.Proof

open Idealize.ShloMosaic Idealize.SL.Sem Cert.Kernel

/-- Where every weight is a value that f32 has, the kernel's five results are the reference's. -/
theorem algebraic : Cert.algebraic_KernelIdeal_ReferenceIdeal_pre_gamma_in_f32 (hKernelIdeal := Cert.KernelIdeal.Gen.facts)
    (hReferenceIdeal := Cert.ReferenceIdeal.Gen.facts) (hPre_gamma_in_f32 := Cert.Pre_gamma_in_f32.Gen.facts) := by
  intro m g m' g' hpre hagree
  have hg : ∀ (c : Dev Cert.KernelIdeal.nD) (k : Fin 3584), Cert.Values.F32Val (Cert.KernelIdeal.Rolled.argG m c (ix1 k)) :=
    fun c k => Cert.Pre_gamma_in_f32.weight_f32 _ _ _ _ _ (hpre c) k
  refine ⟨fun c => Cert.Values.codesG (Cert.KernelIdeal.Rolled.argX m c) (Cert.KernelIdeal.Rolled.argA m c) (Cert.KernelIdeal.Rolled.argB m c) (Cert.KernelIdeal.Rolled.argU m c) (Cert.KernelIdeal.Rolled.argG m c),
    fun c => Cert.Values.scaleG (Cert.KernelIdeal.Rolled.argX m c) (Cert.KernelIdeal.Rolled.argA m c) (Cert.KernelIdeal.Rolled.argB m c) (Cert.KernelIdeal.Rolled.argU m c) (Cert.KernelIdeal.Rolled.argG m c),
    fun c => Cert.Values.maskG (Cert.KernelIdeal.Rolled.argU m c),
    fun c => Cert.Values.rstdG (Cert.KernelIdeal.Rolled.argX m c) (Cert.KernelIdeal.Rolled.argA m c) (Cert.KernelIdeal.Rolled.argB m c) (Cert.KernelIdeal.Rolled.argU m c),
    fun c => Cert.Values.hG (Cert.KernelIdeal.Rolled.argX m c) (Cert.KernelIdeal.Rolled.argA m c) (Cert.KernelIdeal.Rolled.argB m c) (Cert.KernelIdeal.Rolled.argU m c), ?_, ?_⟩
  · refine (θ_run _ _ _).mono (fun r h c => ?_) (θ_run_and (Cert.KernelIdeal.Rolled.run_values m g hg) (Cert.KernelIdeal.Rolled.frame m g))
    obtain ⟨h0, h1, h2, h3, h4⟩ := h.1 c
    exact ⟨h0, h1, h2, h3, h4, h.2.1 c⟩
  · refine (θ_run _ _ _).mono (fun r h c => ?_) (θ_run_and (Cert.ReferenceIdeal.Values.run_values m' g') (Cert.ReferenceIdeal.Gen.frame m' g'))
    obtain ⟨h0, h1, h2, h3, h4⟩ := h.1 c
    obtain ⟨e0, e1, e2, e3, e4⟩ := hagree c
    have a0 : Cert.ReferenceIdeal.Values.argX m' c = Cert.KernelIdeal.Rolled.argX m c := e0
    have a1 : Cert.ReferenceIdeal.Values.argA m' c = Cert.KernelIdeal.Rolled.argA m c := e1
    have a2 : Cert.ReferenceIdeal.Values.argB m' c = Cert.KernelIdeal.Rolled.argB m c := e2
    have a3 : Cert.ReferenceIdeal.Values.argU m' c = Cert.KernelIdeal.Rolled.argU m c := e3
    have a4 : Cert.ReferenceIdeal.Values.argG m' c = Cert.KernelIdeal.Rolled.argG m c := e4
    rw [a0, a1, a2, a3, a4] at h0 h1
    rw [a3] at h2
    rw [a0, a1, a2, a3] at h3 h4
    exact ⟨h0, h1, h2, h3, h4, h.2.1 c⟩

/-- Every claim of the statement. -/
theorem claim : Cert.Claim := ⟨Cert.Kernel.Gen.facts, Cert.KernelIdeal.Gen.facts, Cert.ReferenceIdeal.Gen.facts, Cert.Pre_gamma_in_f32.Gen.facts,
  fun m ρ _ => Cert.Kernel.Frame.frame m ρ, fun m ρ _ => Cert.KernelIdeal.Rolled.frame m ρ, fun m ρ _ => Cert.KernelIdeal.Rolled.frame m ρ,
  fun m ρ _ => Cert.ReferenceIdeal.Gen.frame m ρ, fun m ρ _ => Cert.ReferenceIdeal.Gen.frame m ρ, trivial, algebraic⟩

end Cert.Proof

end
